-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S1x256x1024 1 × IVec S1024x1024 1 × IVec S1x4096x8x128 1 :=
  let main_cst : FVec F S_ .f32 := constant S_ .f32 0xFF800000#32
  let main_v0 : FVec F S1x256x1024 .f32 := broadcastInDim S1x256x1024 ![] bcast_S_S1x256x1024 main_cst
  let main_v1 : IVec S1x256x1024 1 := cmpf .ogt main_arg0 main_v0
  let main_cst_0 : FVec F S_ .f32 := constant S_ .f32 0x7F800000#32
  let main_v2 : FVec F S1x256x1024 .f32 := broadcastInDim S1x256x1024 ![] bcast_S_S1x256x1024 main_cst_0
  let main_v3 : IVec S1x256x1024 1 := cmpf .olt main_arg0 main_v2
  let main_v4 : IVec S1x256x1024 1 := andi main_v1 main_v3
  let main_cst_1 : FVec F S_ .f32 := constant S_ .f32 0xFF800000#32
  let main_v5 : FVec F S1024x1024 .f32 := broadcastInDim S1024x1024 ![] bcast_S_S1024x1024 main_cst_1
  let main_v6 : IVec S1024x1024 1 := cmpf .ogt main_arg1 main_v5
  let main_cst_2 : FVec F S_ .f32 := constant S_ .f32 0x7F800000#32
  let main_v7 : FVec F S1024x1024 .f32 := broadcastInDim S1024x1024 ![] bcast_S_S1024x1024 main_cst_2
  let main_v8 : IVec S1024x1024 1 := cmpf .olt main_arg1 main_v7
  let main_v9 : IVec S1024x1024 1 := andi main_v6 main_v8
  let main_cst_3 : FVec F S_ .f32 := constant S_ .f32 0xFF800000#32
  let main_v10 : FVec F S1x4096x8x128 .f32 := broadcastInDim S1x4096x8x128 ![] bcast_S_S1x4096x8x128 main_cst_3
  let main_v11 : IVec S1x4096x8x128 1 := cmpf .ogt main_arg2 main_v10
  let main_cst_4 : FVec F S_ .f32 := constant S_ .f32 0x7F800000#32
  let main_v12 : FVec F S1x4096x8x128 .f32 := broadcastInDim S1x4096x8x128 ![] bcast_S_S1x4096x8x128 main_cst_4
  let main_v13 : IVec S1x4096x8x128 1 := cmpf .olt main_arg2 main_v12
  let main_v14 : IVec S1x4096x8x128 1 := andi main_v11 main_v13
  (main_v4, main_v9, main_v14)
-- ==== Pre_finite_scores_ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x32768x8x128 : S_.BroadcastsInDim S1x32768x8x128 (![] : Fin 0 → Fin S1x32768x8x128.rank)

variable [Facts]

def fn {F : FTy → Type} [FloatOps F] (main_arg0 : FVec F S1x256x1024 .f32) (main_arg1 : FVec F S1024x1024 .f32) (main_arg2 : FVec F S1x32768x8x128 .f32) (main_arg3 : FVec F S1x32768x8x128 .f32) (main_arg4 : FVec F S1024x1024 .f32) : IVec S1x256x1024 1 × IVec S1024x1024 1 × IVec S1x32768x8x128 1 :=
  let main_cst : FVec F S_ .f32 := constant S_ .f32 0xFF800000#32
  let main_v0 : FVec F S1x256x1024 .f32 := broadcastInDim S1x256x1024 ![] bcast_S_S1x256x1024 main_cst
  let main_v1 : IVec S1x256x1024 1 := cmpf .ogt main_arg0 main_v0
  let main_cst_0 : FVec F S_ .f32 := constant S_ .f32 0x7F800000#32
  let main_v2 : FVec F S1x256x1024 .f32 := broadcastInDim S1x256x1024 ![] bcast_S_S1x256x1024 main_cst_0
  let main_v3 : IVec S1x256x1024 1 := cmpf .olt main_arg0 main_v2
  let main_v4 : IVec S1x256x1024 1 := andi main_v1 main_v3
  let main_cst_1 : FVec F S_ .f32 := constant S_ .f32 0xFF800000#32
  let main_v5 : FVec F S1024x1024 .f32 := broadcastInDim S1024x1024 ![] bcast_S_S1024x1024 main_cst_1
  let main_v6 : IVec S1024x1024 1 := cmpf .ogt main_arg1 main_v5
  let main_cst_2 : FVec F S_ .f32 := constant S_ .f32 0x7F800000#32
  let main_v7 : FVec F S1024x1024 .f32 := broadcastInDim S1024x1024 ![] bcast_S_S1024x1024 main_cst_2
  let main_v8 : IVec S1024x1024 1 := cmpf .olt main_arg1 main_v7
  let main_v9 : IVec S1024x1024 1 := andi main_v6 main_v8
  let main_cst_3 : FVec F S_ .f32 := constant S_ .f32 0xFF800000#32
  let main_v10 : FVec F S1x32768x8x128 .f32 := broadcastInDim S1x32768x8x128 ![] bcast_S_S1x32768x8x128 main_cst_3
  let main_v11 : IVec S1x32768x8x128 1 := cmpf .ogt main_arg2 main_v10
  let main_cst_4 : FVec F S_ .f32 := constant S_ .f32 0x7F800000#32
  let main_v12 : FVec F S1x32768x8x128 .f32 := broadcastInDim S1x32768x8x128 ![] bcast_S_S1x32768x8x128 main_cst_4
  let main_v13 : IVec S1x32768x8x128 1 := cmpf .olt main_arg2 main_v12
  let main_v14 : IVec S1x32768x8x128 1 := andi main_v11 main_v13
  (main_v4, main_v9, main_v14)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1152 : Shape := ⟨2, ![256, 1152]⟩
abbrev S8x32x1152 : Shape := ⟨3, ![8, 32, 1152]⟩
abbrev S7x32x1152 : Shape := ⟨3, ![7, 32, 1152]⟩
abbrev S32x1024 : Shape := ⟨2, ![32, 1024]⟩
abbrev S256x1024 : Shape := ⟨2, ![256, 1024]⟩
abbrev S4096x1024 : Shape := ⟨2, ![4096, 1024]⟩
abbrev S8 : Shape := ⟨1, ![8]⟩
abbrev S_ : Shape := ⟨0, ![]⟩
abbrev S7 : Shape := ⟨1, ![7]⟩
abbrev S16 : Shape := ⟨1, ![16]⟩
abbrev S1 : Shape := ⟨1, ![1]⟩
abbrev S4096x128 : Shape := ⟨2, ![4096, 128]⟩
abbrev S1x4096x1x128 : Shape := ⟨4, ![1, 4096, 1, 128]⟩
abbrev S64x512 : Shape := ⟨2, ![64, 512]⟩
abbrev S1024x512 : Shape := ⟨2, ![1024, 512]⟩
abbrev S64x128 : Shape := ⟨2, ![64, 128]⟩
abbrev S1024x128 : Shape := ⟨2, ![1024, 128]⟩
abbrev S64x1024 : Shape := ⟨2, ![64, 1024]⟩
abbrev S64 : Shape := ⟨1, ![64]⟩
abbrev S64x1 : Shape := ⟨2, ![64, 1]⟩
abbrev S64x4 : Shape := ⟨2, ![64, 4]⟩
abbrev S32x1152 : Shape := ⟨2, ![32, 1152]⟩
abbrev S1x32x1152 : Shape := ⟨3, ![1, 32, 1152]⟩
abbrev S32x128 : Shape := ⟨2, ![32, 128]⟩
abbrev S32x1 : Shape := ⟨2, ![32, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S256x1152, .f32⟩
  | .local _ .vmem, ⟨5, _⟩ => ⟨S8x32x1152, .bf16⟩
  | .local _ .vmem, ⟨6, _⟩ => ⟨S7x32x1152, .bf16⟩
  | .local _ .vmem, ⟨7, _⟩ => ⟨S32x1024, .bf16⟩
  | .local _ .vmem, ⟨8, _⟩ => ⟨S256x1024, .bf16⟩
  | .local _ .vmem, ⟨9, _⟩ => ⟨S4096x1024, .f32⟩
  | .local _ .vmem, ⟨10, _⟩ => ⟨S4096x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_91 : BitVec 32 := 1#32
  let v84 : BitVec 32 := Scalar.addi v2 c1_i32_91
  let c8_i32_92 : BitVec 32 := 8#32
  let v85 : BitVec 32 := Scalar.remsi v84 c8_i32_92
  let c1_i32_94 : BitVec 32 := 1#32
  let v86 : BitVec 32 := Scalar.muli v85 c1_i32_94
  let v87 : BitVec 32 := Scalar.addi c0_i32_95 v86
  v87.toNat
def k0_dev2 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_96 : BitVec 32 := 2#32
  let v88 : BitVec 32 := Scalar.addi v2 c2_i32_96
  let c8_i32_97 : BitVec 32 := 8#32
  let v89 : BitVec 32 := Scalar.remsi v88 c8_i32_97
  let c1_i32_99 : BitVec 32 := 1#32
  let v90 : BitVec 32 := Scalar.muli v89 c1_i32_99
  let v91 : BitVec 32 := Scalar.addi c0_i32_100 v90
  v91.toNat
def k0_dev3 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_101 : BitVec 32 := 3#32
  let v92 : BitVec 32 := Scalar.addi v2 c3_i32_101
  let c8_i32_102 : BitVec 32 := 8#32
  let v93 : BitVec 32 := Scalar.remsi v92 c8_i32_102
  let c1_i32_104 : BitVec 32 := 1#32
  let v94 : BitVec 32 := Scalar.muli v93 c1_i32_104
  let v95 : BitVec 32 := Scalar.addi c0_i32_105 v94
  v95.toNat
def k0_dev4 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_106 : BitVec 32 := 4#32
  let v96 : BitVec 32 := Scalar.addi v2 c4_i32_106
  let c8_i32_107 : BitVec 32 := 8#32
  let v97 : BitVec 32 := Scalar.remsi v96 c8_i32_107
  let c1_i32_109 : BitVec 32 := 1#32
  let v98 : BitVec 32 := Scalar.muli v97 c1_i32_109
  let v99 : BitVec 32 := Scalar.addi c0_i32_110 v98
  v99.toNat
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_111 : BitVec 32 := 5#32
  let v100 : BitVec 32 := Scalar.addi v2 c5_i32_111
  let c8_i32_112 : BitVec 32 := 8#32
  let v101 : BitVec 32 := Scalar.remsi v100 c8_i32_112
  let c1_i32_114 : BitVec 32 := 1#32
  let v102 : BitVec 32 := Scalar.muli v101 c1_i32_114
  let v103 : BitVec 32 := Scalar.addi c0_i32_115 v102
  v103.toNat
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_116 : BitVec 32 := 6#32
  let v104 : BitVec 32 := Scalar.addi v2 c6_i32_116
  let c8_i32_117 : BitVec 32 := 8#32
  let v105 : BitVec 32 := Scalar.remsi v104 c8_i32_117
  let c1_i32_119 : BitVec 32 := 1#32
  let v106 : BitVec 32 := Scalar.muli v105 c1_i32_119
  let v107 : BitVec 32 := Scalar.addi c0_i32_120 v106
  v107.toNat
def k0_dev7 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_121 : BitVec 32 := 7#32
  let v108 : BitVec 32 := Scalar.addi v2 c7_i32_121
  let c8_i32_122 : BitVec 32 := 8#32
  let v109 : BitVec 32 := Scalar.remsi v108 c8_i32_122
  let c1_i32_124 : BitVec 32 := 1#32
  let v110 : BitVec 32 := Scalar.muli v109 c1_i32_124
  let v111 : BitVec 32 := Scalar.addi c0_i32_125 v110
  v111.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_615 : BitVec 32 := 0#32
  let v614 : BitVec 1 := Scalar.cmpi .ne v2 c0_i32_615
  let v615 : BitVec 32 := Scalar.extui v614
  let c0_i32_616 : BitVec 32 := 0#32
  let v616 : BitVec 1 := Scalar.cmpi .ne v615 c0_i32_616
  v616

def k0_off1 (d0 : Dev nD) : Fin 3 → Nat :=
  let c7_i32_1069 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1130 : BitVec 32 := Scalar.subi c7_i32_1069 v2
  let c8_i32_1070 : BitVec 32 := 8#32
  let v1131 : BitVec 32 := Scalar.remsi v1130 c8_i32_1070
  let c0_i32_1076 : BitVec 32 := 0#32
  let c0_i32_1077 : BitVec 32 := 0#32
  ![v1131.toNat, 0, 0]
def k0_dev8 : Nat :=
  let c0_i32_1075 : BitVec 32 := 0#32
  let c0_i32_1073 : BitVec 32 := 0#32
  let c1_i32_1074 : BitVec 32 := 1#32
  let v1132 : BitVec 32 := Scalar.muli c0_i32_1073 c1_i32_1074
  let v1133 : BitVec 32 := Scalar.addi c0_i32_1075 v1132
  v1133.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_620 : BitVec 32 := 1#32
  let v622 : BitVec 1 := Scalar.cmpi .ne v2 c1_i32_620
  let v623 : BitVec 32 := Scalar.extui v622
  let c0_i32_621 : BitVec 32 := 0#32
  let v624 : BitVec 1 := Scalar.cmpi .ne v623 c0_i32_621
  v624

def k0_off2 (d0 : Dev nD) : Fin 3 → Nat :=
  let c8_i32_1069 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1130 : BitVec 32 := Scalar.subi c8_i32_1069 v2
  let c8_i32_1070 : BitVec 32 := 8#32
  let v1131 : BitVec 32 := Scalar.remsi v1130 c8_i32_1070
  let c0_i32_1076 : BitVec 32 := 0#32
  let c0_i32_1077 : BitVec 32 := 0#32
  ![v1131.toNat, 0, 0]
def k0_dev9 : Nat :=
  let c0_i32_1075 : BitVec 32 := 0#32
  let c1_i32_1073 : BitVec 32 := 1#32
  let c1_i32_1074 : BitVec 32 := 1#32
  let v1132 : BitVec 32 := Scalar.muli c1_i32_1073 c1_i32_1074
  let v1133 : BitVec 32 := Scalar.addi c0_i32_1075 v1132
  v1133.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_712 : BitVec 32 := 2#32
  let v712 : BitVec 1 := Scalar.cmpi .ne v2 c2_i32_712
  let v713 : BitVec 32 := Scalar.extui v712
  let c0_i32_713 : BitVec 32 := 0#32
  let v714 : BitVec 1 := Scalar.cmpi .ne v713 c0_i32_713
  v714

def k0_off3 (d0 : Dev nD) : Fin 3 → Nat :=
  let c9_i32_1069 : BitVec 32 := 9#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1130 : BitVec 32 := Scalar.subi c9_i32_1069 v2
  let c8_i32_1070 : BitVec 32 := 8#32
  let v1131 : BitVec 32 := Scalar.remsi v1130 c8_i32_1070
  let c0_i32_1076 : BitVec 32 := 0#32
  let c0_i32_1077 : BitVec 32 := 0#32
  ![v1131.toNat, 0, 0]
def k0_dev10 : Nat :=
  let c0_i32_1075 : BitVec 32 := 0#32
  let c2_i32_1073 : BitVec 32 := 2#32
  let c1_i32_1074 : BitVec 32 := 1#32
  let v1132 : BitVec 32 := Scalar.muli c2_i32_1073 c1_i32_1074
  let v1133 : BitVec 32 := Scalar.addi c0_i32_1075 v1132
  v1133.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_717 : BitVec 32 := 3#32
  let v720 : BitVec 1 := Scalar.cmpi .ne v2 c3_i32_717
  let v721 : BitVec 32 := Scalar.extui v720
  let c0_i32_718 : BitVec 32 := 0#32
  let v722 : BitVec 1 := Scalar.cmpi .ne v721 c0_i32_718
  v722

def k0_off4 (d0 : Dev nD) : Fin 3 → Nat :=
  let c10_i32_1069 : BitVec 32 := 10#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1130 : BitVec 32 := Scalar.subi c10_i32_1069 v2
  let c8_i32_1070 : BitVec 32 := 8#32
  let v1131 : BitVec 32 := Scalar.remsi v1130 c8_i32_1070
  let c0_i32_1076 : BitVec 32 := 0#32
  let c0_i32_1077 : BitVec 32 := 0#32
  ![v1131.toNat, 0, 0]
def k0_dev11 : Nat :=
  let c0_i32_1075 : BitVec 32 := 0#32
  let c3_i32_1073 : BitVec 32 := 3#32
  let c1_i32_1074 : BitVec 32 := 1#32
  let v1132 : BitVec 32 := Scalar.muli c3_i32_1073 c1_i32_1074
  let v1133 : BitVec 32 := Scalar.addi c0_i32_1075 v1132
  v1133.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_809 : BitVec 32 := 4#32
  let v810 : BitVec 1 := Scalar.cmpi .ne v2 c4_i32_809
  let v811 : BitVec 32 := Scalar.extui v810
  let c0_i32_810 : BitVec 32 := 0#32
  let v812 : BitVec 1 := Scalar.cmpi .ne v811 c0_i32_810
  v812

def k0_off5 (d0 : Dev nD) : Fin 3 → Nat :=
  let c11_i32_1069 : BitVec 32 := 11#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1130 : BitVec 32 := Scalar.subi c11_i32_1069 v2
  let c8_i32_1070 : BitVec 32 := 8#32
  let v1131 : BitVec 32 := Scalar.remsi v1130 c8_i32_1070
  let c0_i32_1076 : BitVec 32 := 0#32
  let c0_i32_1077 : BitVec 32 := 0#32
  ![v1131.toNat, 0, 0]
def k0_dev12 : Nat :=
  let c0_i32_1075 : BitVec 32 := 0#32
  let c4_i32_1073 : BitVec 32 := 4#32
  let c1_i32_1074 : BitVec 32 := 1#32
  let v1132 : BitVec 32 := Scalar.muli c4_i32_1073 c1_i32_1074
  let v1133 : BitVec 32 := Scalar.addi c0_i32_1075 v1132
  v1133.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_814 : BitVec 32 := 5#32
  let v818 : BitVec 1 := Scalar.cmpi .ne v2 c5_i32_814
  let v819 : BitVec 32 := Scalar.extui v818
  let c0_i32_815 : BitVec 32 := 0#32
  let v820 : BitVec 1 := Scalar.cmpi .ne v819 c0_i32_815
  v820

def k0_off6 (d0 : Dev nD) : Fin 3 → Nat :=
  let c12_i32_1069 : BitVec 32 := 12#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1130 : BitVec 32 := Scalar.subi c12_i32_1069 v2
  let c8_i32_1070 : BitVec 32 := 8#32
  let v1131 : BitVec 32 := Scalar.remsi v1130 c8_i32_1070
  let c0_i32_1076 : BitVec 32 := 0#32
  let c0_i32_1077 : BitVec 32 := 0#32
  ![v1131.toNat, 0, 0]
def k0_dev13 : Nat :=
  let c0_i32_1075 : BitVec 32 := 0#32
  let c5_i32_1073 : BitVec 32 := 5#32
  let c1_i32_1074 : BitVec 32 := 1#32
  let v1132 : BitVec 32 := Scalar.muli c5_i32_1073 c1_i32_1074
  let v1133 : BitVec 32 := Scalar.addi c0_i32_1075 v1132
  v1133.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_906 : BitVec 32 := 6#32
  let v908 : BitVec 1 := Scalar.cmpi .ne v2 c6_i32_906
  let v909 : BitVec 32 := Scalar.extui v908
  let c0_i32_907 : BitVec 32 := 0#32
  let v910 : BitVec 1 := Scalar.cmpi .ne v909 c0_i32_907
  v910

def k0_off7 (d0 : Dev nD) : Fin 3 → Nat :=
  let c13_i32_1069 : BitVec 32 := 13#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1130 : BitVec 32 := Scalar.subi c13_i32_1069 v2
  let c8_i32_1070 : BitVec 32 := 8#32
  let v1131 : BitVec 32 := Scalar.remsi v1130 c8_i32_1070
  let c0_i32_1076 : BitVec 32 := 0#32
  let c0_i32_1077 : BitVec 32 := 0#32
  ![v1131.toNat, 0, 0]
def k0_dev14 : Nat :=
  let c0_i32_1075 : BitVec 32 := 0#32
  let c6_i32_1073 : BitVec 32 := 6#32
  let c1_i32_1074 : BitVec 32 := 1#32
  let v1132 : BitVec 32 := Scalar.muli c6_i32_1073 c1_i32_1074
  let v1133 : BitVec 32 := Scalar.addi c0_i32_1075 v1132
  v1133.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_911 : BitVec 32 := 7#32
  let v916 : BitVec 1 := Scalar.cmpi .ne v2 c7_i32_911
  let v917 : BitVec 32 := Scalar.extui v916
  let c0_i32_912 : BitVec 32 := 0#32
  let v918 : BitVec 1 := Scalar.cmpi .ne v917 c0_i32_912
  v918

def k0_off8 (d0 : Dev nD) : Fin 3 → Nat :=
  let c14_i32_1069 : BitVec 32 := 14#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1130 : BitVec 32 := Scalar.subi c14_i32_1069 v2
  let c8_i32_1070 : BitVec 32 := 8#32
  let v1131 : BitVec 32 := Scalar.remsi v1130 c8_i32_1070
  let c0_i32_1076 : BitVec 32 := 0#32
  let c0_i32_1077 : BitVec 32 := 0#32
  ![v1131.toNat, 0, 0]
def k0_dev15 : Nat :=
  let c0_i32_1075 : BitVec 32 := 0#32
  let c7_i32_1073 : BitVec 32 := 7#32
  let c1_i32_1074 : BitVec 32 := 1#32
  let v1132 : BitVec 32 := Scalar.muli c7_i32_1073 c1_i32_1074
  let v1133 : BitVec 32 := Scalar.addi c0_i32_1075 v1132
  v1133.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v919 : BitVec 32 := Scalar.muli v2 c32_i32
  v919
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v919 : BitVec 32 := Scalar.muli v2 c32_i32
  let v920 : BitVec 32 := v919
  let v949 : Index := Scalar.indexCast v920
  let c0_955 : Index := 0#32
  ![v949.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v919 : BitVec 32 := Scalar.muli v2 c32_i32
  let v920 : BitVec 32 := v919
  let v1020 : Index := Scalar.indexCast v920
  let c0_984 : Index := 0#32
  ![v1020.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v919 : BitVec 32 := Scalar.muli v2 c32_i32
  let v920 : BitVec 32 := v919
  let c0_i32_990 : BitVec 32 := 0#32
  ![v920.toNat, 0]
def k0_dev16 (d0 : Dev nD) : Nat :=
  let c0_i32_989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_985 : BitVec 32 := 1#32
  let v1024 : BitVec 32 := Scalar.addi v2 c1_i32_985
  let c8_i32_986 : BitVec 32 := 8#32
  let v1025 : BitVec 32 := Scalar.remsi v1024 c8_i32_986
  let c1_i32_988 : BitVec 32 := 1#32
  let v1026 : BitVec 32 := Scalar.muli v1025 c1_i32_988
  let v1027 : BitVec 32 := Scalar.addi c0_i32_989 v1026
  v1027.toNat
def k0_dev17 (d0 : Dev nD) : Nat :=
  let c0_i32_995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_991 : BitVec 32 := 2#32
  let v1031 : BitVec 32 := Scalar.addi v2 c2_i32_991
  let c8_i32_992 : BitVec 32 := 8#32
  let v1032 : BitVec 32 := Scalar.remsi v1031 c8_i32_992
  let c1_i32_994 : BitVec 32 := 1#32
  let v1033 : BitVec 32 := Scalar.muli v1032 c1_i32_994
  let v1034 : BitVec 32 := Scalar.addi c0_i32_995 v1033
  v1034.toNat
def k0_dev18 (d0 : Dev nD) : Nat :=
  let c0_i32_1001 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_997 : BitVec 32 := 3#32
  let v1038 : BitVec 32 := Scalar.addi v2 c3_i32_997
  let c8_i32_998 : BitVec 32 := 8#32
  let v1039 : BitVec 32 := Scalar.remsi v1038 c8_i32_998
  let c1_i32_1000 : BitVec 32 := 1#32
  let v1040 : BitVec 32 := Scalar.muli v1039 c1_i32_1000
  let v1041 : BitVec 32 := Scalar.addi c0_i32_1001 v1040
  v1041.toNat
def k0_dev19 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1003 : BitVec 32 := 4#32
  let v1045 : BitVec 32 := Scalar.addi v2 c4_i32_1003
  let c8_i32_1004 : BitVec 32 := 8#32
  let v1046 : BitVec 32 := Scalar.remsi v1045 c8_i32_1004
  let c1_i32_1006 : BitVec 32 := 1#32
  let v1047 : BitVec 32 := Scalar.muli v1046 c1_i32_1006
  let v1048 : BitVec 32 := Scalar.addi c0_i32_1007 v1047
  v1048.toNat
def k0_dev20 (d0 : Dev nD) : Nat :=
  let c0_i32_1013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1009 : BitVec 32 := 5#32
  let v1052 : BitVec 32 := Scalar.addi v2 c5_i32_1009
  let c8_i32_1010 : BitVec 32 := 8#32
  let v1053 : BitVec 32 := Scalar.remsi v1052 c8_i32_1010
  let c1_i32_1012 : BitVec 32 := 1#32
  let v1054 : BitVec 32 := Scalar.muli v1053 c1_i32_1012
  let v1055 : BitVec 32 := Scalar.addi c0_i32_1013 v1054
  v1055.toNat
def k0_dev21 (d0 : Dev nD) : Nat :=
  let c0_i32_1019 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1015 : BitVec 32 := 6#32
  let v1059 : BitVec 32 := Scalar.addi v2 c6_i32_1015
  let c8_i32_1016 : BitVec 32 := 8#32
  let v1060 : BitVec 32 := Scalar.remsi v1059 c8_i32_1016
  let c1_i32_1018 : BitVec 32 := 1#32
  let v1061 : BitVec 32 := Scalar.muli v1060 c1_i32_1018
  let v1062 : BitVec 32 := Scalar.addi c0_i32_1019 v1061
  v1062.toNat
def k0_dev22 (d0 : Dev nD) : Nat :=
  let c0_i32_1025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1021 : BitVec 32 := 7#32
  let v1066 : BitVec 32 := Scalar.addi v2 c7_i32_1021
  let c8_i32_1022 : BitVec 32 := 8#32
  let v1067 : BitVec 32 := Scalar.remsi v1066 c8_i32_1022
  let c1_i32_1024 : BitVec 32 := 1#32
  let v1068 : BitVec 32 := Scalar.muli v1067 c1_i32_1024
  let v1069 : BitVec 32 := Scalar.addi c0_i32_1025 v1068
  v1069.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S1x256x8x128 : Shape := ⟨4, ![1, 256, 8, 128]⟩
abbrev S256 : Shape := ⟨1, ![256]⟩
abbrev S_ : Shape := ⟨0, ![]⟩
abbrev S256x1 : Shape := ⟨2, ![256, 1]⟩
abbrev S32768 : Shape := ⟨1, ![32768]⟩
abbrev S1x32768 : Shape := ⟨2, ![1, 32768]⟩
abbrev S256x32768 : Shape := ⟨2, ![256, 32768]⟩
abbrev S1x8x256x32768 : Shape := ⟨4, ![1, 8, 256, 32768]⟩
abbrev S1x1x256x32768 : Shape := ⟨4, ![1, 1, 256, 32768]⟩
abbrev S1x8x256 : Shape := ⟨3, ![1, 8, 256]⟩
abbrev S1x8x256x1 : Shape := ⟨4, ![1, 8, 256, 1]⟩
abbrev S1x1x256x1 : Shape := ⟨4, ![1, 1, 256, 1]⟩
abbrev S1x8x128x256 : Shape := ⟨4, ![1, 8, 128, 256]⟩

abbrev nBuf : Space → Nat
  | .hbm => 137
  | .vmem => 0
  | .smem => 0
  | _ => 0

abbrev hbmTy0_0 (i : Nat) : BufTy := match i % 128 with
  | 0 => ⟨S1x256x1024, .f32⟩
  | 1 => ⟨S1024x1024, .f32⟩
  | 2 => ⟨S1x32768x8x128, .f32⟩
  | 3 => ⟨S1x32768x8x128, .f32⟩
  | 4 => ⟨S1024x1024, .f32⟩
  | 5 => ⟨S1x256x1024, .f32⟩
  | 6 => ⟨S1x256x8x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S32768, .i32⟩
  | 28 => ⟨S_, .i32⟩
  | 29 => ⟨S_, .i32⟩
  | 30 => ⟨S32768, .i32⟩
  | 31 => ⟨S32768, .i32⟩
  | 32 => ⟨S32768, .i32⟩
  | 33 => ⟨S_, .i32⟩
  | 34 => ⟨S32768, .i32⟩
  | 35 => ⟨S32768, .i1⟩
  | 36 => ⟨S32768, .i32⟩
  | 37 => ⟨S32768, .i32⟩
  | 38 => ⟨S_, .i32⟩
  | 39 => ⟨S32768, .i32⟩
  | 40 => ⟨S32768, .i1⟩
  | 41 => ⟨S32768, .i1⟩
  | 42 => ⟨S_, .i32⟩
  | 43 => ⟨S32768, .i32⟩
  | 44 => ⟨S32768, .i32⟩
  | 45 => ⟨S32768, .i32⟩
  | 46 => ⟨S1x32768, .i32⟩
  | 47 => ⟨S256x32768, .i32⟩
  | 48 => ⟨S256x32768, .i32⟩
  | 49 => ⟨S256x32768, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x32768, .i32⟩
  | 57 => ⟨S1x32768, .i32⟩
  | 58 => ⟨S_, .i32⟩
  | 59 => ⟨S1x32768, .i32⟩
  | 60 => ⟨S1x32768, .i1⟩
  | 61 => ⟨S_, .i32⟩
  | 62 => ⟨S1x32768, .i32⟩
  | 63 => ⟨S1x32768, .i1⟩
  | 64 => ⟨S_, .i32⟩
  | 65 => ⟨S_, .i1⟩
  | 66 => ⟨S1x32768, .i1⟩
  | 67 => ⟨S1x32768, .i1⟩
  | 68 => ⟨S1x32768, .i1⟩
  | 69 => ⟨S1x32768, .i32⟩
  | 70 => ⟨S1x32768, .i32⟩
  | 71 => ⟨S1x32768, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x32768, .i32⟩
  | 95 => ⟨S256x32768, .i32⟩
  | 96 => ⟨S256x32768, .i1⟩
  | 97 => ⟨S256x32768, .i1⟩
  | 98 => ⟨S1x8x256x32768, .f32⟩
  | 99 => ⟨S_, .f32⟩
  | 100 => ⟨S1x8x256x32768, .f32⟩
  | 101 => ⟨S1x8x256x32768, .f32⟩
  | 102 => ⟨S1x1x256x32768, .i1⟩
  | 103 => ⟨S_, .f32⟩
  | 104 => ⟨S_, .f32⟩
  | 105 => ⟨S1x8x256x32768, .i1⟩
  | 106 => ⟨S1x8x256x32768, .f32⟩
  | 107 => ⟨S1x8x256x32768, .f32⟩
  | 108 => ⟨S_, .f32⟩
  | 109 => ⟨S1x8x256, .f32⟩
  | 110 => ⟨S1x8x256x1, .f32⟩
  | 111 => ⟨S1x8x256x32768, .f32⟩
  | 112 => ⟨S1x8x256x32768, .f32⟩
  | 113 => ⟨S1x8x256x32768, .f32⟩
  | 114 => ⟨S_, .i1⟩
  | 115 => ⟨S256, .i1⟩
  | 116 => ⟨S1x1x256x1, .i1⟩
  | 117 => ⟨S_, .f32⟩
  | 118 => ⟨S1x8x256, .f32⟩
  | 119 => ⟨S1x8x256x1, .f32⟩
  | 120 => ⟨S_, .f32⟩
  | 121 => ⟨S_, .f32⟩
  | 122 => ⟨S1x8x256x1, .i1⟩
  | 123 => ⟨S1x8x256x1, .f32⟩
  | 124 => ⟨S1x8x256x1, .f32⟩
  | 125 => ⟨S1x8x256x32768, .f32⟩
  | 126 => ⟨S1x8x256x32768, .f32⟩
  | 127 => ⟨S1x1x256x1, .i1⟩
  | _ => ⟨S1x256x1024, .f32⟩

abbrev hbmTy0_1 (i : Nat) : BufTy := match i % 128 with
  | 0 => ⟨S_, .f32⟩
  | 1 => ⟨S_, .f32⟩
  | 2 => ⟨S1x8x256x32768, .i1⟩
  | 3 => ⟨S1x8x256x32768, .f32⟩
  | 4 => ⟨S1x8x256x32768, .f32⟩
  | 5 => ⟨S1x8x128x256, .f32⟩
  | 6 => ⟨S1x256x8x128, .f32⟩
  | 7 => ⟨S1x256x1024, .f32⟩
  | 8 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Base.lean ====
/-
The shared ground of the proof: the resource algebra, the ring of eight devices, the kernel's buffers and cells.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging's rounds, the exchange's rounds (a cell's duties are named by the device that
pays them), the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

end Cert.KernelIdeal.Ring

end
-- ==== Proof.Proto.lean ====
/-
The exchange between the eight devices: which counter is raised by whom, by how much, and what each landing hands over.

Three steps. (1) Every device tells the seven others that it has started (the barrier counter, one unit each); the note
of `s` to `d` hands over the part of `s`'s receive buffers into which `d` is going to write. (2) Each device sends its
partial sums of chunk `j` to device `j` (slot `slot s j` there); the landing hands over the slot, its numbers
described by `Ok`. (3) Each device sends its finished chunk to the seven others, into the rows of the result that it
owns; the landing hands over those rows at their final contents.
-/
module

public import proofs.«01_k».proof.Proof.Base

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices, slots, memrefs, cells -/

set_option backward.proofsInPublic true in
/-- The device `k + 1` places after `c`. -/
def pr (c : Dev nD) (k : Fin 7) : Dev nD := ⟨(c.val + k.val + 1) % 8, Nat.mod_lt _ (by decide)⟩
set_option backward.proofsInPublic true in
/-- The slot of `d`'s receive buffer into which `s` writes. -/
def slot (s d : Dev nD) : Fin 7 := ⟨(d.val + 7 - s.val) % 8 % 7, Nat.mod_lt _ (by decide)⟩

theorem pr_ne (c : Dev nD) (k : Fin 7) : pr c k ≠ c := by revert c k; decide
theorem univ_erase (c : Dev nD) : (Finset.univ.erase c : Finset (Dev nD)) = Finset.univ.image (pr c) := by revert c; decide
theorem pr_inj (c : Dev nD) : Function.Injective (pr c) := by revert c; decide
theorem slots_to (d : Dev nD) : (Finset.univ : Finset (Fin 7)) = (Finset.univ.erase d).image (fun s => slot s d) := by revert d; decide
theorem slot_inj (d : Dev nD) : ∀ s ∈ (Finset.univ.erase d : Finset (Dev nD)), ∀ s' ∈ (Finset.univ.erase d : Finset (Dev nD)), slot s d = slot s' d → s = s' := by
  revert d; decide

abbrev partM : Memref sig .tc .vmem S256x1152 .f32 := Memref.whole cc0_scratch0
abbrev stageM : Memref sig .tc .vmem S8x32x1152 .bf16 := Memref.whole cc0_scratch1
abbrev recvM : Memref sig .tc .vmem S7x32x1152 .bf16 := Memref.whole cc0_scratch2
abbrev agsM : Memref sig .tc .vmem S32x1024 .bf16 := Memref.whole cc0_scratch3
abbrev agM : Memref sig .tc .vmem S256x1024 .bf16 := Memref.whole cc0_scratch4

theorem stage_inb (j : Fin 8) : ∀ a, (![j.val, 0, 0] : Fin 3 → Nat) a + S1x32x1152.size a ≤ S8x32x1152.size a := by revert j; decide
theorem recv_inb (k : Fin 7) : ∀ a, (![k.val, 0, 0] : Fin 3 → Nat) a + S1x32x1152.size a ≤ S7x32x1152.size a := by revert k; decide
theorem rows_inb (d : Dev nD) : ∀ a, (![32 * d.val, 0] : Fin 2 → Nat) a + S32x1024.size a ≤ S256x1024.size a := by revert d; decide

/-- The slots and the rows as the copies name them. -/
abbrev stageSlot (j : Fin 8) : Memref sig .tc .vmem S32x1152 .bf16 :=
  (stageM.slice (Rect.unit (s := S8x32x1152) ![j.val, 0, 0] S1x32x1152.size (stage_inb j)) (fun _ => rfl)).squeeze S32x1152 squeezes_S1x32x1152_S32x1152
abbrev recvSlot (k : Fin 7) : Memref sig .tc .vmem S32x1152 .bf16 :=
  (recvM.slice (Rect.unit (s := S7x32x1152) ![k.val, 0, 0] S1x32x1152.size (recv_inb k)) (fun _ => rfl)).squeeze S32x1152 squeezes_S1x32x1152_S32x1152
abbrev agRows (d : Dev nD) : Memref sig .tc .vmem S32x1024 .bf16 :=
  agM.slice (Rect.unit (s := S256x1024) ![32 * d.val, 0] S32x1024.size (rows_inb d)) (fun _ => rfl)

abbrev barS : Sem sig := (SemArray.scalar (sig.barrier 0 rfl) : Sems sig S_).sem
abbrev dq (n : ℕ) (h : n < 37) : DmaSem sig := ⟨n, h⟩

abbrev barCell (c : Dev nD) : GSem nD τ sig := ((c : Thread nD τ), .reg barS)
abbrev rsCell (c : Dev nD) : GSem nD τ sig := ((c : Thread nD τ), .dma (dq 12 (by decide)))
abbrev agCell (c : Dev nD) : GSem nD τ sig := ((c : Thread nD τ), .dma (dq 20 (by decide)))
abbrev rsOut (c : Dev nD) (j : Fin 8) : GSem nD τ sig := ((c : Thread nD τ), .dma (dq (4 + j.val) (by omega)))
abbrev agOut (c : Dev nD) (k : Fin 7) : GSem nD τ sig := ((c : Thread nD τ), .dma (dq (13 + k.val) (by omega)))

/-- The eighteen counters of the exchange: the barrier, then the copies' counters 4 … 20. -/
abbrev csem (i : Fin 18) : SemLoc sig := if i = 0 then .reg barS else .dma (dq (i.val + 3) (by omega))
abbrev kcell (ck : Dev nD × Fin 18) : GSem nD τ sig := ((ck.1 : Thread nD τ), csem ck.2)

/-- A counter's number: the barrier is 100, a copy's counter its own. -/
def cls : SemLoc sig → ℕ
  | .reg _ => 100
  | .dma q => q.val

abbrev NR : ℕ := (recvSlot 0).view.dmaCredit
abbrev NA : ℕ := (agRows 0).view.dmaCredit
theorem NR_pos : 0 < NR := View.dmaCredit_pos _ (by decide)
theorem NA_pos : 0 < NA := View.dmaCredit_pos _ (by decide)

/-! ## What is handed over -/

section Pay
variable (c : Dev nD)

def recvPts (k : Fin 7) (f : Buf (Elt F) ((recvSlot k).view.loc (c : Thread nD τ))) : sProp 𝕄 :=
  (recvSlot k).view.loc (c : Thread nD τ) ↦[(recvSlot k).view.set]{fullShare} f
def stagePts (j : Fin 8) (f : Buf (Elt F) ((stageSlot j).view.loc (c : Thread nD τ))) : sProp 𝕄 :=
  (stageSlot j).view.loc (c : Thread nD τ) ↦[(stageSlot j).view.set]{fullShare} f
def agPts (d : Dev nD) (f : Buf (Elt F) ((agRows d).view.loc (c : Thread nD τ))) : sProp 𝕄 :=
  (agRows d).view.loc (c : Thread nD τ) ↦[(agRows d).view.set]{fullShare} f
/-- The `k`-th reading share of a device's finished chunk (the seven copies read it at the same time). -/
def ownPts (k : Fin 7) (f : Buf (Elt F) (agsM.view.loc (c : Thread nD τ))) : sProp 𝕄 :=
  agsM.view.loc (c : Thread nD τ) ↦[agsM.view.set]{Transfers.shareTokN fullShare k.val} f
/-- The same over some contents. -/
def stageAny (j : Fin 8) : sProp 𝕄 := iprop(∃ f, stagePts (F := F) c j f)
def recvAny (k : Fin 7) : sProp 𝕄 := iprop(∃ f, recvPts (F := F) c k f)
def agAny (d : Dev nD) : sProp 𝕄 := iprop(∃ f, agPts (F := F) c d f)

instance recvPts_storable (k f) : BI.Storable (upEmb : UEmb _ 𝕄) (recvPts (F := F) c k f) := by unfold recvPts; infer_instance
instance stagePts_storable (k f) : BI.Storable (upEmb : UEmb _ 𝕄) (stagePts (F := F) c k f) := by unfold stagePts; infer_instance
instance agPts_storable (k f) : BI.Storable (upEmb : UEmb _ 𝕄) (agPts (F := F) c k f) := by unfold agPts; infer_instance
instance ownPts_storable (k f) : BI.Storable (upEmb : UEmb _ 𝕄) (ownPts (F := F) c k f) := by unfold ownPts; infer_instance
end Pay

/-- The specification of what the devices exchange: `Ok s d v` describes the partial sums that `s` sends `d`, `own s` is
the finished chunk of `s`. -/
structure Sp (F : FTy → Type) where
  Ok : Dev nD → Dev nD → FVec F S32x1152 .bf16 → Prop
  own : Dev nD → (cc0_scratch3 : Ref sig .tc).ty.Contents (Elt F)
  /-- The whole result: the chunks one below the other. -/
  all : (cc0_scratch4 : Ref sig .tc).ty.Contents (Elt F)

variable (I : Sp F)

/-- `s`'s note to `d`: the places of `s` into which `d` is going to write. -/
def barPay (d s : Dev nD) : sProp 𝕄 := iprop(recvAny s (slot d s) ∗ agAny s d)
/-- `s`'s partial sums landed at `d`. -/
def rsPay (d s : Dev nD) : sProp 𝕄 := iprop(∃ f, ⌜I.Ok s d ((recvSlot (slot s d)).view.read (Elt F) f)⌝ ∗ recvPts d (slot s d) f)
/-- `s`'s finished chunk landed at `d`. -/
def agPay (d s : Dev nD) : sProp 𝕄 := agPts d s I.all

/-! ## The schedule: one round -/

/-- Who raises counter `n` of device `d`: the barrier and the two landing counters every other device; a departure
counter the device itself, once (device `d` has no copy to itself). -/
def dutiesOf (d : Dev nD) (n : ℕ) : Finset (Dev nD) :=
  if n = 100 ∨ n = 12 ∨ n = 20 then Finset.univ.erase d
  else if 4 ≤ n ∧ n < 12 then (if n = 4 + d.val then ∅ else {0})
  else if 13 ≤ n ∧ n < 20 then {0} else ∅

def amountOf (n : ℕ) : ℕ := if n = 100 then 1 else if n ≤ 12 then NR else NA

def payOf (d : Dev nD) (n : ℕ) (s : Dev nD) : sProp 𝕄 :=
  if n = 100 then barPay d s
  else if n = 12 then rsPay I d s
  else if n = 20 then agPay I d s
  else if h : 4 ≤ n ∧ n < 12 then stageAny d ⟨n - 4, by omega⟩
  else if h : 13 ≤ n ∧ n < 20 then ownPts d ⟨n - 13, by omega⟩ (I.own d)
  else iprop(emp)

def ringRd : Rounds.Schedule (GSem nD τ sig) (Dev nD) 𝕄 where
  duties g r := if r = 0 ∧ g.1.2 = .tc then dutiesOf g.1.1 (cls g.2) else ∅
  unitless _ := False
  amount g _ _ := amountOf (cls g.2)
  payload g _ s := payOf I g.1.1 (cls g.2) s
  amount_pos g _ _ _ := by
    show 0 < amountOf (cls g.2)
    unfold amountOf; split
    · exact Nat.one_pos
    · split
      · exact NR_pos
      · exact NA_pos

instance ringRd_payload_storable (g : GSem nD τ sig) (r : ℕ) (d : Dev nD) :
    BI.Storable (upEmb : UEmb _ 𝕄) ((ringRd I).payload g r d) := by
  show BI.Storable upEmb (payOf I g.1.1 (cls g.2) d)
  unfold payOf barPay rsPay agPay stageAny recvAny agAny
  (repeat' split) <;> infer_instance

section Sched
variable (c : Dev nD)

theorem duties_later (g : GSem nD τ sig) : ∀ r, 1 ≤ r → (ringRd I).duties g r = ∅ :=
  fun r hr => if_neg fun h => by omega

theorem duties_bar : (ringRd I).duties (barCell c) 0 = Finset.univ.erase c := rfl
theorem duties_rs : (ringRd I).duties (rsCell c) 0 = Finset.univ.erase c := rfl
theorem duties_ag : (ringRd I).duties (agCell c) 0 = Finset.univ.erase c := rfl
theorem dutiesOf_rsOut (j : Fin 8) : dutiesOf c (4 + j.val) = if j = c then ∅ else {0} := by revert c j; decide
theorem dutiesOf_agOut (k : Fin 7) : dutiesOf c (13 + k.val) = {0} := by revert c k; decide
theorem duties_rsOut (j : Fin 8) (h : j ≠ c) : (ringRd I).duties (rsOut c j) 0 = {0} :=
  (dutiesOf_rsOut c j).trans (if_neg h)
theorem duties_rsOut_self (r : ℕ) : (ringRd I).duties (rsOut c c) r = ∅ := by
  show (if r = 0 ∧ _ then dutiesOf c (4 + c.val) else ∅) = ∅
  rw [dutiesOf_rsOut, if_pos rfl, ite_self]
theorem duties_agOut (k : Fin 7) : (ringRd I).duties (agOut c k) 0 = {0} := dutiesOf_agOut c k

theorem amount_rsOut (j : Fin 8) (d : Dev nD) : (ringRd I).amount (rsOut c j) 0 d = NR := by
  show amountOf (4 + j.val) = NR
  unfold amountOf; rw [if_neg (by omega), if_pos (by omega)]
theorem amount_agOut (k : Fin 7) (d : Dev nD) : (ringRd I).amount (agOut c k) 0 d = NA := by
  show amountOf (13 + k.val) = NA
  unfold amountOf; rw [if_neg (by omega), if_neg (by omega)]
theorem amount_bar (d : Dev nD) : (ringRd I).amount (barCell c) 0 d = 1 := rfl
theorem amount_rs (d : Dev nD) : (ringRd I).amount (rsCell c) 0 d = NR := rfl
theorem amount_ag (d : Dev nD) : (ringRd I).amount (agCell c) 0 d = NA := rfl

theorem card_others : (Finset.univ.erase c : Finset (Dev nD)).card = 7 := by revert c; decide

theorem expect_bar : (ringRd I).expect (barCell c) 0 = 7 := by
  show ∑ _d ∈ Finset.univ.erase c, 1 = 7
  rw [Finset.sum_const, card_others]; rfl
theorem expect_rs : (ringRd I).expect (rsCell c) 0 = 7 * NR := by
  show ∑ _d ∈ Finset.univ.erase c, NR = 7 * NR
  rw [Finset.sum_const, card_others]; rfl
theorem expect_ag : (ringRd I).expect (agCell c) 0 = 7 * NA := by
  show ∑ _d ∈ Finset.univ.erase c, NA = 7 * NA
  rw [Finset.sum_const, card_others]; rfl
theorem expect_rsOut (j : Fin 8) (h : j ≠ c) : (ringRd I).expect (rsOut c j) 0 = NR := by
  unfold Schedule.expect Schedule.amountOf; rw [duties_rsOut I c j h, Finset.sum_singleton, amount_rsOut]
theorem expect_agOut (k : Fin 7) : (ringRd I).expect (agOut c k) 0 = NA := by
  unfold Schedule.expect Schedule.amountOf; rw [duties_agOut, Finset.sum_singleton, amount_agOut]

theorem payload_bar (s : Dev nD) : (ringRd I).payload (barCell c) 0 s = barPay c s := rfl
theorem payload_rs (s : Dev nD) : (ringRd I).payload (rsCell c) 0 s = rsPay I c s := rfl
theorem payload_ag (s : Dev nD) : (ringRd I).payload (agCell c) 0 s = agPay I c s := rfl
theorem payload_rsOut (j : Fin 8) (s : Dev nD) : (ringRd I).payload (rsOut c j) 0 s = stageAny c j := by
  fin_cases j <;> rfl
theorem payload_agOut (k : Fin 7) (s : Dev nD) : (ringRd I).payload (agOut c k) 0 s = ownPts c k (I.own c) := by
  fin_cases k <;> rfl

/-- The rest of a one-duty round. -/
theorem rest_rsOut (j : Fin 8) (h : j ≠ c) :
    bigSep ((ringRd I).duties (rsOut c j) 0 \ ∅) (fun d => (ringRd I).payload (rsOut c j) 0 d) = stageAny c j := by
  rw [Finset.sdiff_empty, duties_rsOut I c j h, bigSep_singleton, payload_rsOut]
theorem rest_agOut (k : Fin 7) :
    bigSep ((ringRd I).duties (agOut c k) 0 \ ∅) (fun d => (ringRd I).payload (agOut c k) 0 d) = ownPts c k (I.own c) := by
  rw [Finset.sdiff_empty, duties_agOut, bigSep_singleton, payload_agOut]

end Sched

/-! ## What each device owes at launch; the levels -/

section Owed
variable (c : Dev nD)

def barDue (k : Fin 7) : CellTallies nD τ sig Unit := tallyAt (barCell (pr c k)) () 1
def rsDue (j : Fin 8) : CellTallies nD τ sig Unit := tallyAt (rsCell j) () (if j = c then 0 else NR)
def agDue (k : Fin 7) : CellTallies nD τ sig Unit := tallyAt (agCell (pr c k)) () NA

/-- What is owed with the last `n` copies of the third step to go (the next one is the last summand); -/
def agOwed : ℕ → CellTallies nD τ sig Unit
  | 0 => 0
  | n + 1 => agOwed n + agDue c ⟨6 - n, by omega⟩
/-- with the last `n` copies of the second step to go; -/
def rsOwed : ℕ → CellTallies nD τ sig Unit
  | 0 => agOwed c 7
  | n + 1 => rsOwed n + rsDue c ⟨7 - n, by omega⟩
/-- with the last `n` notes of the first step to go. -/
def barOwed : ℕ → CellTallies nD τ sig Unit
  | 0 => rsOwed c 8
  | n + 1 => barOwed n + barDue c ⟨6 - n, by omega⟩

/-- The levels: barrier 1, the second step's landings 2, the third step's 3, everything else 0. -/
def lvOf (n : ℕ) : ℕ := if n = 100 then 1 else if n = 12 then 2 else if n = 20 then 3 else 0
def L (g : GSem nD τ sig) : Finset Unit := if g.1.2 = .tc then {()} else ∅
def lv (g : GSem nD τ sig) (_ : Unit) : ℕ := lvOf (cls g.2)
theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tally {n m : ℕ} (d : Dev nD) (sm : SemLoc sig) (h : n < lvOf (cls sm)) : Above n (tallyAt ((d : Thread nD τ), sm) () m) := by
  intro g u hg
  rw [tallyAt_apply] at hg
  by_cases hh : g = ((d : Thread nD τ), sm) ∧ u = ()
  · rw [hh.1]; exact ⟨rfl, h⟩
  · rw [if_neg hh] at hg; exact absurd hg (Nat.lt_irrefl 0)
theorem Above.mono {n m : ℕ} {O : CellTallies nD τ sig Unit} (h : Above n O) (hm : m ≤ n) : Above m O :=
  fun g u hg => ⟨(h g u hg).1, Nat.lt_of_le_of_lt hm (h g u hg).2⟩

theorem above_ag (n : ℕ) : Above 2 (agOwed c n) := by
  induction n with
  | zero => exact above_zero 2
  | succ n ih => exact ih.add (above_tally _ _ (by decide))
theorem above_rs (n : ℕ) : Above 1 (rsOwed c n) := by
  induction n with
  | zero => exact (above_ag c 7).mono (by decide)
  | succ n ih => exact ih.add (above_tally _ _ (by decide))
theorem above_bar (n : ℕ) : Above 0 (barOwed c n) := by
  induction n with
  | zero => exact (above_rs c 8).mono (by decide)
  | succ n ih => exact ih.add (above_tally _ _ (by decide))

omit [FloatOps F] in
/-- A device may wait on a counter at or below level `n` while all it owes lies above `n`. -/
theorem mayWait {n : ℕ} {O : CellTallies nD τ sig Unit} (sm : SemLoc sig) (hO : Above n O) (hsm : lvOf (cls sm) ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Owed

end Cert.KernelIdeal.Ring

end
-- ==== Proof.Steps.lean ====
/-
One statement of the exchange at a time: a note of the barrier, the barrier's wait, a copy of each step, a wait for one
of seven landings, a wait for a departure.
-/
module

public import proofs.«01_k».proof.Proof.Proto

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Sp F) (K : Dev nD × Fin 18 → ℕ)

omit [FloatOps F] in
theorem bigSep_cut {J : Type} [DecidableEq J] {s t : Finset J} (h : t ⊆ s) {Φ : J → sProp 𝕄} : bigSep s Φ = iprop(bigSep t Φ ∗ bigSep (s \ t) Φ) :=
  bigSep_sdiff_split h
omit [FloatOps F] in
theorem bigSep_one {J : Type} [DecidableEq J] {s : Finset J} {i : J} (h : i ∈ s) (Φ : J → sProp 𝕄) : (bigSep s Φ : sProp 𝕄) ⊢ Φ i :=
  bigSep_elim h

/-! ## The standing facts: every counter's invariant, every counter at its first round -/

def recs : sProp 𝕄 :=
  iprop(bigSep Finset.univ (fun ck => cellInv ER (ringRd I) (K ck) (kcell ck)) ∗ bigSep Finset.univ (fun ck => (reached ER (kcell ck) 0 : sProp 𝕄)))

instance recs_persistent : BI.Persistent (recs I K) := by unfold recs; infer_instance

theorem kcell_bar (c : Dev nD) : kcell (c, 0) = barCell c := rfl
theorem kcell_rs (c : Dev nD) : kcell (c, 9) = rsCell c := rfl
theorem kcell_ag (c : Dev nD) : kcell (c, 17) = agCell c := rfl
abbrev iOut (j : Fin 8) : Fin 18 := ⟨1 + j.val, by omega⟩
abbrev iAg (k : Fin 7) : Fin 18 := ⟨10 + k.val, by omega⟩
theorem kcell_rsOut (c : Dev nD) (j : Fin 8) : kcell (c, iOut j) = rsOut c j := by fin_cases j <;> rfl
theorem kcell_agOut (c : Dev nD) (k : Fin 7) : kcell (c, iAg k) = agOut c k := by fin_cases k <;> rfl

theorem inv_at {g : GSem nD τ sig} (ck : Dev nD × Fin 18) (h : kcell ck = g) : recs I K ⊢ cellInv ER (ringRd I) (K ck) g := by
  subst h; unfold recs; iintro ⟨H, -⟩
  iapply (bigSep_one (Finset.mem_univ ck) (fun ck => cellInv ER (ringRd I) (K ck) (kcell ck))); iexact H
theorem reached_at {g : GSem nD τ sig} (ck : Dev nD × Fin 18) (h : kcell ck = g) : recs I K ⊢ reached ER g 0 := by
  subst h; unfold recs; iintro ⟨-, H⟩
  iapply (bigSep_one (Finset.mem_univ ck) (fun ck => (reached ER (kcell ck) 0 : sProp 𝕄))); iexact H

section Step
variable (c : Dev nD)
variable {α : Type} {Q : α → sProp (MT nD τ sig Unit (Elt F) ℕ UU ℕ)}
variable {kk : PUnit → Prog (TpuEff nD τ sig (Elt F) Λ₀ .tc) α}

/-- The note to the device `k + 1` places on. -/
theorem step_note (k : Fin 7) (n : Dev nD) (hn : n = pr c k) (O : CellTallies nD τ sig Unit) (W : Waits sig Unit) {w : ℤ} (hw : w = 1) :
    iprop(recs I K ∗ owes (c : Thread nD τ) (O + barDue c k) W ∗ dutyTok ER (barCell (pr c k)) 0 c ∗ barPay (pr c k) c)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS w) kk) Q) := by
  subst hn hw
  iintro ⟨#HR, HO, HT, HP⟩ Hk
  iapply (Rounds.wp_signal 𝒱₀ ER (ringRd I) (c : Thread nD τ) none (dst := (pr c k : Thread nD τ)) (κ := K (pr c k, 0)) (r := 0)
      (d := c) (by rw [duties_bar]; exact Finset.mem_erase.mpr ⟨(pr_ne c k).symm, Finset.mem_univ _⟩) (amount_bar I (pr c k) c) () O rfl) $$ [HO HT HP]
  · isplitr; · iapply (inv_at I K (pr c k, 0) (kcell_bar _)); iexact HR
    isplitl [HO]; · iexact HO
    isplitl [HT]; · iexact HT
    isplitl [HP]; · rw [payload_bar]; iexact HP
    iapply (reached_at I K (pr c k, 0) (kcell_bar _)); iexact HR
  iexact Hk

/-- The wait for the seven notes: what they hand over. -/
theorem step_bar (W : Waits sig Unit) {w : ℕ} (hw : w = 7) :
    iprop(recs I K ∗ levAts L lv ∗ owes (c : Thread nD τ) (rsOwed c 8) W ∗ cred (tallyAt (barCell c) () 7) ∗ atPos ER (barCell c) 0 ∅ 0)
      ⊢ iprop(((∃ W, owes (c : Thread nD τ) (rsOwed c 8) W) ∗ atPos ER (barCell c) 1 ∅ 0 ∗ bigSep (Finset.univ.erase c) (fun s => barPay c s)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS w) kk) Q) := by
  subst hw
  iintro ⟨#HR, #HL, HO, HC, HA⟩ Hk
  iapply (Rounds.wp_wait_rest_token 𝒱₀ ER (ringRd I) (c : Thread nD τ) none (κ := K (c, 0))
      (wpE_semWait_eq 𝒱₀ (c : Thread nD τ) none Set.univ) (Set.mem_univ _) () (O := rsOwed c 8) (W := W) (R := 0) (m := 0) (T := ∅)
      (by rw [expect_bar])) $$ [HC HO HA]
  · isplitr; · iapply (inv_at I K (c, 0) (kcell_bar _)); iexact HR
    isplitl [HC]; · iexact HC
    isplitl [HO]; · iexact HO
    isplitr; · iapply (mayWait c _ (above_rs c 8) (by decide)); iexact HL
    iexact HA
  iintro ⟨HO, HA, -, HP⟩
  iapply Hk
  isplitl [HO]; · iexists _; iexact HO
  isplitl [HA]; · iexact HA
  rw [Finset.sdiff_empty, duties_bar]
  iexact HP

/-! ### The copies of the second step -/

/-- What a device holds for its copy to `j` (nothing for `j = c`): the place at `j`, the right to pay the landing and
the departure. -/
def sendPre (j : Fin 8) : sProp 𝕄 :=
  if j = c then iprop(emp)
  else iprop(recvAny (F := F) j (slot c j) ∗ dutyTok ER (rsCell j) 0 c ∗ dutyTok ER (rsOut c j) 0 0)
/-- What is left of it: the departure's credit (for `j = c` the rows themselves). -/
def stay (j : Fin 8) : sProp 𝕄 :=
  if j = c then stageAny (F := F) c j else iprop(cred (tallyAt (rsOut c j) () NR))

omit [FloatOps F] in
theorem recv_landed (j : Fin 8) (fs : Buf (Elt F) ((stageSlot j).view.loc (c : Thread nD τ))) (k : Fin 7)
    (fd : Buf (Elt F) ((recvSlot k).view.loc (j : Thread nD τ))) :
    (recvSlot k).view.read (Elt F) ((recvSlot k).view.write (Elt F) fd ((stageSlot j).view.read (Elt F) fs) Finset.univ)
      = (stageSlot j).view.read (Elt F) fs :=
  View.read_write_univ _ _

/-- The copy to `j`, which device `j` itself leaves out. -/
theorem step_send (j : Fin 8) {p : Prop} [Decidable p] (hp : p ↔ j ≠ c) {n : p → Dev nD} (hn : ∀ h, n h = j)
    {off : Fin 3 → ℕ} (hinb : p → ∀ a, off a + S1x32x1152.size a ≤ S7x32x1152.size a) (hoff : p → off = ![(slot c j).val, 0, 0])
    {w1 : (stageSlot j).view.WordExact}
    {w2 : ∀ h : p, ((recvM.slice (Rect.unit (s := S7x32x1152) off S1x32x1152.size (hinb h)) (fun _ => rfl)).squeeze S32x1152 squeezes_S1x32x1152_S32x1152).view.WordExact}
    {w0 : ∀ h : p, ((recvM.slice (Rect.unit (s := S7x32x1152) off S1x32x1152.size (hinb h)) (fun _ => rfl)).squeeze S32x1152 squeezes_S1x32x1152_S32x1152).view.ref.isScScratch = false}
    {w3 : ∀ h : p, DmaTarget.Typed .vmem (.dma (dq 12 (by decide))) (.remote (Dev.tc (n h)) ((recvM.slice (Rect.unit (s := S7x32x1152) off S1x32x1152.size (hinb h)) (fun _ => rfl)).squeeze S32x1152 squeezes_S1x32x1152_S32x1152) (.dma (dq (4 + j.val) (by omega))) (w0 h))}
    (fs : Buf (Elt F) ((stageSlot j).view.loc (c : Thread nD τ)))
    (hOk : j ≠ c → I.Ok c j ((stageSlot j).view.read (Elt F) fs)) (O : CellTallies nD τ sig Unit) (R : PUnit → sProp 𝕄) :
    iprop(recs I K ∗ (∃ W, owes (c : Thread nD τ) (O + rsDue c j) W) ∗ stagePts c j fs ∗ sendPre (F := F) c j)
      ⊢ iprop(((∃ W, owes (c : Thread nD τ) O W) ∗ stay (F := F) c j -∗ R ⟨⟩)
          -∗ wp frame (wpE (defs₀ (F := F)) 𝒱₀ (c : Thread nD τ) none) Set.univ
              (if h : p then (.op (.enqueueDma (stageSlot j) (.remote (Dev.tc (n h))
                  ((recvM.slice (Rect.unit (s := S7x32x1152) off S1x32x1152.size (hinb h)) (fun _ => rfl)).squeeze S32x1152 squeezes_S1x32x1152_S32x1152)
                  (.dma (dq (4 + j.val) (by omega))) (w0 h)) (.dma (dq 12 (by decide))) w1 (w2 h) (w3 h)) (fun _ => .ret ⟨⟩)
                  : Prog (TpuEff nD τ sig (Elt F) Λ₀ .tc) PUnit) else .ret ⟨⟩) R) := by
  by_cases h : p
  · have hj := hp.mp h
    rw [dif_pos h]
    unfold sendPre stay rsDue
    rw [if_neg hj, if_neg hj, if_neg hj]
    obtain rfl := hoff h
    obtain rfl : n = fun _ => j := funext hn
    unfold recvAny stagePts recvPts
    iintro ⟨#HR, ⟨%W, HO⟩, HS, ⟨%fd, HD⟩, HT1, HT2⟩ Hk
    iapply (Rounds.wp_send_pointsTo 𝒱₀ ER (ringRd I) (c : Thread nD τ) none (κ₁ := K (c, iOut j)) (κ₂ := K (j, 9)) (r₁ := 0) (r₂ := 0)
        (d₁ := 0) (d₂ := c) (fd := fd) (by rw [duties_rsOut I c j hj]; exact Finset.mem_singleton_self _)
        (by rw [duties_rs]; exact Finset.mem_erase.mpr ⟨fun h => hj h.symm, Finset.mem_univ _⟩) () () NR rfl
        (amount_rsOut I c j 0) (amount_rs I j c) O rfl (W := W)
        (by rw [payload_rsOut]; unfold stageAny stagePts; iintro H; iexists fs; iexact H)
        (by rw [payload_rs]; unfold rsPay recvPts; iintro H
            iexists _
            isplitr; swap; · iexact H
            ipureintro; rw [recv_landed]; exact hOk hj)) $$ [HO HS HD HT1 HT2]
    · isplitr; · iapply (inv_at I K (c, iOut j) (kcell_rsOut _ _)); iexact HR
      isplitr; · iapply (inv_at I K (j, 9) (kcell_rs _)); iexact HR
      isplitl [HS]; · iexact HS
      isplitl [HD]; · iexact HD
      isplitl [HO]; · iexact HO
      isplitl [HT2]; · iexact HT2
      isplitr; · iapply (reached_at I K (c, iOut j) (kcell_rsOut _ _)); iexact HR
      isplitl [HT1]; · iexact HT1
      iapply (reached_at I K (j, 9) (kcell_rs _)); iexact HR
    iintro ⟨HC, HO⟩
    rw [wp_ret]
    imodintro
    iapply Hk
    isplitl [HO]; · iexists W; iexact HO
    iexact HC
  · have hj : j = c := by by_contra hh; exact h (hp.mpr hh)
    rw [dif_neg h, wp_ret]
    unfold sendPre stay rsDue
    rw [if_pos hj, if_pos hj, if_pos hj, tallyAt_zero, add_zero]
    iintro ⟨#HR, ⟨%W, HO⟩, HS, HP⟩ Hk
    imodintro
    iapply Hk
    isplitl [HO]; · iexists W; iexact HO
    unfold stageAny; iexists fs; iexact HS

/-! ### One of seven landings -/

/-- After `n` waits: which landings have been handed over is not known, only that they are landings. -/
def landed (sm : SemLoc sig) (N : ℕ) (P : Dev nD → sProp 𝕄) (n : ℕ) : sProp 𝕄 :=
  iprop(∃ S : Finset (Dev nD), ⌜S ⊆ Finset.univ.erase c⌝ ∗ atPos ER ((c : Thread nD τ), sm) 0 S (n * N) ∗ bigSep S P)

theorem step_land (sm : SemLoc sig) (N : ℕ) (P : Dev nD → sProp 𝕄) (i : Fin 18) (hi : kcell (c, i) = ((c : Thread nD τ), sm))
    (hP : ∀ s, (ringRd I).payload ((c : Thread nD τ), sm) 0 s = P s) (hd : (ringRd I).duties ((c : Thread nD τ), sm) 0 = Finset.univ.erase c) {lo : ℕ} {O : CellTallies nD τ sig Unit} (hO : Above lo O)
    (hsm : lvOf (cls sm) ≤ lo) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ sm N Q)
    (n m : ℕ) :
    iprop(recs I K ∗ levAts L lv ∗ (∃ W, owes (c : Thread nD τ) O W) ∗ cred (tallyAt ((c : Thread nD τ), sm) () ((m + 1) * N)) ∗ landed (F := F) c sm N P n)
      ⊢ iprop(((∃ W, owes (c : Thread nD τ) O W) ∗ cred (tallyAt ((c : Thread nD τ), sm) () (m * N)) ∗ landed (F := F) c sm N P (n + 1)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold landed
  rw [Nat.add_mul m 1 N, Nat.one_mul, ← tallyAt_add]
  iintro ⟨#HR, #HL, ⟨%W, HO⟩, HC, ⟨%S, %hSu, HA, HP⟩⟩ Hk
  icases (cred_add _ _).1 $$ HC with ⟨HC, HC1⟩
  iapply (Rounds.wp_wait 𝒱₀ ER (ringRd I) (c : Thread nD τ) none (κ := K (c, i)) hw (Set.mem_univ _) (cr := Finsupp.single () N) (O := O) (W := W)
      {(sm, ())} (R := 0) (m := n * N) (T := S) (Util.total_single () N) (image_single_subset sm () N)) $$ [HO HC1 HA]
  · isplitr; · iapply (inv_at I K (c, i) hi); iexact HR
    isplitl [HC1]; · iexact HC1
    isplitl [HO]; · iexact HO
    isplitr; · iapply (mayWait c _ hO hsm); iexact HL
    iexact HA
  iintro %S' ⟨%hS, HO, HA, HP'⟩
  iapply Hk
  isplitl [HO]; · iexists _; iexact HO
  isplitl [HC]; · iexact HC
  iexists S'
  isplitr; · ipureintro; rw [← hd]; exact hS.2.1
  rw [Nat.add_mul, Nat.one_mul]
  isplitl [HA]; · iexact HA
  rw [bigSep_cut hS.1]
  isplitl [HP]; · iexact HP
  simp only [hP]
  iexact HP'

/-- The last one: every landing has been handed over. -/
theorem step_land_last (sm : SemLoc sig) (N : ℕ) (P : Dev nD → sProp 𝕄) (i : Fin 18) (hi : kcell (c, i) = ((c : Thread nD τ), sm))
    (hP : ∀ s, (ringRd I).payload ((c : Thread nD τ), sm) 0 s = P s) (hd : (ringRd I).duties ((c : Thread nD τ), sm) 0 = Finset.univ.erase c)
    (hex : (ringRd I).expect ((c : Thread nD τ), sm) 0 = 7 * N) {lo : ℕ} {O : CellTallies nD τ sig Unit} (hO : Above lo O)
    (hsm : lvOf (cls sm) ≤ lo) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ sm N Q) :
    iprop(recs I K ∗ levAts L lv ∗ (∃ W, owes (c : Thread nD τ) O W) ∗ cred (tallyAt ((c : Thread nD τ), sm) () (1 * N)) ∗ landed (F := F) c sm N P 6)
      ⊢ iprop(((∃ W, owes (c : Thread nD τ) O W) ∗ atPos ER ((c : Thread nD τ), sm) 1 ∅ 0 ∗ bigSep (Finset.univ.erase c) P
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold landed
  rw [Nat.one_mul]
  iintro ⟨#HR, #HL, ⟨%W, HO⟩, HC, ⟨%S, %hSu, HA, HP⟩⟩ Hk
  iapply (Rounds.wp_wait_rest_token 𝒱₀ ER (ringRd I) (c : Thread nD τ) none (κ := K (c, i)) hw (Set.mem_univ _) ()
      (O := O) (W := W) (R := 0) (m := 6 * N) (T := S) (by rw [hex]; omega)) $$ [HO HC HA]
  · isplitr; · iapply (inv_at I K (c, i) hi); iexact HR
    isplitl [HC]; · iexact HC
    isplitl [HO]; · iexact HO
    isplitr; · iapply (mayWait c _ hO hsm); iexact HL
    iexact HA
  iintro ⟨HO, HA, -, HP'⟩
  iapply Hk
  isplitl [HO]; · iexists _; iexact HO
  isplitl [HA]; · iexact HA
  rw [bigSep_cut hSu]
  isplitl [HP]; · iexact HP
  simp only [hP, hd]
  iexact HP'

/-! ### The copies of the third step -/

/-- The copy of the finished chunk to the device `k + 1` places on. -/
theorem step_spread (k : Fin 7) (n : Dev nD) (hn : n = pr c k) {off : Fin 2 → ℕ} (hinb : ∀ a, off a + S32x1024.size a ≤ S256x1024.size a)
    (hoff : off = ![32 * c.val, 0]) {w1 : agsM.view.WordExact}
    {w2 : (agM.slice (Rect.unit (s := S256x1024) off S32x1024.size hinb) (fun _ => rfl)).view.WordExact}
    {w0 : (agM.slice (Rect.unit (s := S256x1024) off S32x1024.size hinb) (fun _ => rfl)).view.ref.isScScratch = false}
    {w3 : DmaTarget.Typed .vmem (.dma (dq 20 (by decide))) (.remote (Dev.tc n) (agM.slice (Rect.unit (s := S256x1024) off S32x1024.size hinb) (fun _ => rfl)) (.dma (dq (13 + k.val) (by omega))) w0)}
    (hall : ∀ x ∈ (agRows c).view.set, True)
    (hown : ∀ g, agPts (F := F) (pr c k) c ((agRows c).view.write (Elt F) g (agsM.view.read (Elt F) (I.own c)) Finset.univ) ⊢ agPts (pr c k) c I.all)
    (O : CellTallies nD τ sig Unit) :
    iprop(recs I K ∗ (∃ W, owes (c : Thread nD τ) (O + agDue c k) W) ∗ ownPts c k (I.own c) ∗ agAny (F := F) (pr c k) c
        ∗ dutyTok ER (agCell (pr c k)) 0 c ∗ dutyTok ER (agOut c k) 0 0)
      ⊢ iprop(((∃ W, owes (c : Thread nD τ) O W) ∗ cred (tallyAt (agOut c k) () NA)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma agsM (.remote (Dev.tc n)
                  (agM.slice (Rect.unit (s := S256x1024) off S32x1024.size hinb) (fun _ => rfl))
                  (.dma (dq (13 + k.val) (by omega))) w0) (.dma (dq 20 (by decide))) w1 w2 w3) kk) Q) := by
  subst hoff hn
  iintro ⟨#HR, ⟨%W, HO⟩, HS, HD, HT1, HT2⟩ Hk
  unfold agAny ownPts
  icases HD with ⟨%fd, HD⟩
  unfold agPts
  iapply (Rounds.wp_send_pointsTo 𝒱₀ ER (ringRd I) (c : Thread nD τ) none (κ₁ := K (c, iAg k)) (κ₂ := K (pr c k, 17)) (r₁ := 0) (r₂ := 0)
      (d₁ := 0) (d₂ := c) (fd := fd) (by rw [duties_agOut I c k]; exact Finset.mem_singleton_self _)
      (by rw [duties_ag]; exact Finset.mem_erase.mpr ⟨(pr_ne c k).symm, Finset.mem_univ _⟩) () () NA rfl
      (amount_agOut I c k 0) (amount_ag I (pr c k) c) O rfl (W := W)
      (by rw [payload_agOut]; exact Entails.rfl)
      (by rw [payload_ag]; exact hown fd)) $$ [HO HS HD HT1 HT2]
  · isplitr; · iapply (inv_at I K (c, iAg k) (kcell_agOut _ _)); iexact HR
    isplitr; · iapply (inv_at I K (pr c k, 17) (kcell_ag _)); iexact HR
    isplitl [HS]; · iexact HS
    isplitl [HD]; · iexact HD
    isplitl [HO]; · iexact HO
    isplitl [HT2]; · iexact HT2
    isplitr; · iapply (reached_at I K (c, iAg k) (kcell_agOut _ _)); iexact HR
    isplitl [HT1]; · iexact HT1
    iapply (reached_at I K (pr c k, 17) (kcell_ag _)); iexact HR
  iintro ⟨HC, HO⟩
  iapply Hk
  isplitl [HO]; · iexists W; iexact HO
  iexact HC

/-! ### The waits for the departures, with nothing owed any more -/

theorem step_left (j : Fin 8) {p : Prop} [Decidable p] (hp : p ↔ j ≠ c) {w : p → TpuEff nD τ sig (Elt F) Λ₀ .tc PUnit}
    (hw : ∀ h : p, ∀ Q : PUnit → sProp 𝕄, wpE (defs₀ (F := F)) 𝒱₀ (c : Thread nD τ) none Set.univ (w h) Q
      = waitSpec (c : Thread nD τ) Set.univ (.dma (dq (4 + j.val) (by omega))) NR Q) (R : PUnit → sProp 𝕄) :
    iprop(recs I K ∗ (∃ W, owes (c : Thread nD τ) 0 W) ∗ stay (F := F) c j ∗ atPos ER (rsOut c j) 0 ∅ 0)
      ⊢ iprop(((∃ W, owes (c : Thread nD τ) 0 W) ∗ stageAny (F := F) c j ∗ semVal (rsOut c j) 0 -∗ R ⟨⟩)
          -∗ wp frame (wpE (defs₀ (F := F)) 𝒱₀ (c : Thread nD τ) none) Set.univ
              (if h : p then (.op (w h) (fun _ => .ret ⟨⟩) : Prog (TpuEff nD τ sig (Elt F) Λ₀ .tc) PUnit) else .ret ⟨⟩) R) := by
  by_cases h : p
  · have hj := hp.mp h
    rw [dif_pos h]
    unfold stay
    rw [if_neg hj]
    iintro ⟨#HR, ⟨%W, HO⟩, HS, HA⟩ Hk
    iapply (Rounds.wp_wait_rest_token 𝒱₀ ER (ringRd I) (c : Thread nD τ) none (κ := K (c, iOut j)) (hw h) (Set.mem_univ _) ()
        (O := 0) (W := W) (R := 0) (m := 0) (T := ∅) (by rw [expect_rsOut I c j hj, Nat.zero_add])) $$ [HO HS HA]
    · isplitr; · iapply (inv_at I K (c, iOut j) (kcell_rsOut _ _)); iexact HR
      isplitl [HS]; · iexact HS
      isplitl [HO]; · iexact HO
      isplitr; · rw [MayWait_zero]; iempintro
      iexact HA
    rw [rest_rsOut I c j hj]
    iintro ⟨HO, HA, -, HP⟩
    rw [wp_ret]
    imod (Rounds.cell_close ER (ringRd I) (Set.mem_univ (K (c, iOut j))) (fun h => h) (R := 0 + 1) (duties_later I (rsOut c j))) $$ [HA] with HV
    · isplitr; · iapply (inv_at I K (c, iOut j) (kcell_rsOut _ _)); iexact HR
      iexact HA
    imodintro
    iapply Hk
    isplitl [HO]; · iexists _; iexact HO
    isplitl [HP]; · iexact HP
    iexact HV
  · have hj : j = c := by by_contra hh; exact h (hp.mpr hh)
    rw [dif_neg h, wp_ret]
    unfold stay
    rw [if_pos hj]
    subst hj
    iintro ⟨#HR, ⟨%W, HO⟩, HS, HA⟩ Hk
    imod (Rounds.cell_close ER (ringRd I) (Set.mem_univ (K (j, iOut j))) (fun h => h) (R := 0) (fun r _ => duties_rsOut_self I j r)) $$ [HA] with HV
    · isplitr; · iapply (inv_at I K (j, iOut j) (kcell_rsOut _ _)); iexact HR
      iexact HA
    imodintro
    iapply Hk
    isplitl [HO]; · iexists _; iexact HO
    isplitl [HS]; · iexact HS
    iexact HV

theorem step_gone (k : Fin 7) {w : TpuEff nD τ sig (Elt F) Λ₀ .tc PUnit}
    (hw : ∀ Q : PUnit → sProp 𝕄, wpE (defs₀ (F := F)) 𝒱₀ (c : Thread nD τ) none Set.univ w Q
      = waitSpec (c : Thread nD τ) Set.univ (.dma (dq (13 + k.val) (by omega))) NA Q) :
    iprop(recs I K ∗ (∃ W, owes (c : Thread nD τ) 0 W) ∗ cred (tallyAt (agOut c k) () NA) ∗ atPos ER (agOut c k) 0 ∅ 0)
      ⊢ iprop(((∃ W, owes (c : Thread nD τ) 0 W) ∗ ownPts c k (I.own c) ∗ semVal (agOut c k) 0
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  iintro ⟨#HR, ⟨%W, HO⟩, HS, HA⟩ Hk
  iapply (Rounds.wp_wait_rest_token 𝒱₀ ER (ringRd I) (c : Thread nD τ) none (κ := K (c, iAg k)) hw (Set.mem_univ _) ()
      (O := 0) (W := W) (R := 0) (m := 0) (T := ∅) (by rw [expect_agOut I c k, Nat.zero_add])) $$ [HO HS HA]
  · isplitr; · iapply (inv_at I K (c, iAg k) (kcell_agOut _ _)); iexact HR
    isplitl [HS]; · iexact HS
    isplitl [HO]; · iexact HO
    isplitr; · rw [MayWait_zero]; iempintro
    iexact HA
  rw [rest_agOut I c k]
  iintro ⟨HO, HA, -, HP⟩
  imod (Rounds.cell_close ER (ringRd I) (Set.mem_univ (K (c, iAg k))) (fun h => h) (R := 0 + 1) (duties_later I (agOut c k))) $$ [HA] with HV
  · isplitr; · iapply (inv_at I K (c, iAg k) (kcell_agOut _ _)); iexact HR
    iexact HA
  iapply Hk
  isplitl [HO]; · iexists _; iexact HO
  isplitl [HP]; · iexact HP
  iexact HV

end Step

end Cert.KernelIdeal.Ring

end
-- ==== Proof.Pre.lean ====
/-
What a device holds when its body begins.
-/
module

public import proofs.«01_k».proof.Proof.Steps

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body on the buffers it is called with. -/
abbrev prog : Prog (TpuEff nD τ sig (Elt F) Λ₀ .tc) PUnit :=
  cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11

variable (I : Sp F) (K : Dev nD × Fin 18 → ℕ) (c : Dev nD)

/-- One note and the right to leave it. -/
def noteRes (k : Fin 7) : sProp 𝕄 := iprop(dutyTok ER (barCell (pr c k)) 0 c ∗ barPay (F := F) (pr c k) c)
/-- The rights to pay for the copy to `j`. -/
def sendToks (j : Fin 8) : sProp 𝕄 :=
  if j = c then iprop(emp) else iprop(dutyTok ER (rsCell j) 0 c ∗ dutyTok ER (rsOut c j) 0 0)
/-- The rights to pay for the third step's copy number `k`. -/
def spreadToks (k : Fin 7) : sProp 𝕄 := iprop(dutyTok ER (agCell (pr c k)) 0 c ∗ dutyTok ER (agOut c k) 0 0)

/-- The counters of the local copies. -/
abbrev loc (i : Fin 16) : GSem nD τ sig := ((c : Thread nD τ), .dma (dq (21 + i.val) (by omega)))

/-- The exchange's part of what the body begins with. -/
def preX : sProp 𝕄 :=
  iprop(bigSep Finset.univ (fun k : Fin 7 => noteRes (F := F) c k)
    ∗ bigSep Finset.univ (fun j : Fin 8 => sendToks (F := F) c j)
    ∗ bigSep Finset.univ (fun k : Fin 7 => spreadToks (F := F) c k)
    ∗ (∃ W, owes (c : Thread nD τ) (barOwed c 7) W)
    ∗ cred (tallyAt (barCell c) () 7) ∗ cred (tallyAt (rsCell c) () (7 * NR)) ∗ cred (tallyAt (agCell c) () (7 * NA))
    ∗ atPos ER (barCell c) 0 ∅ 0 ∗ atPos ER (rsCell c) 0 ∅ 0 ∗ atPos ER (agCell c) 0 ∅ 0
    ∗ bigSep Finset.univ (fun j : Fin 8 => (atPos ER (rsOut c j) 0 ∅ 0 : sProp 𝕄))
    ∗ bigSep Finset.univ (fun k : Fin 7 => (atPos ER (agOut c k) 0 ∅ 0 : sProp 𝕄)))

/-- The buffers' part: the inputs at their contents, everything else at some contents, the counters at zero. -/
def preB (x : Bf (F := F) c (Memref.whole cc0_stg0_0)) (wq : Bf (F := F) c (Memref.whole cc0_stg1_0)) (wo : Bf (F := F) c (Memref.whole cc0_stg2_0))
    (kx : Bf (F := F) c (Memref.whole main_arg2)) (vx : Bf (F := F) c (Memref.whole main_arg3)) : sProp 𝕄 :=
  iprop(pt c (Memref.whole cc0_stg0_0) x ∗ pt c (Memref.whole cc0_stg1_0) wq ∗ pt c (Memref.whole cc0_stg2_0) wo
    ∗ pt c (Memref.whole main_arg2) kx ∗ pt c (Memref.whole main_arg3) vx
    ∗ (∃ f, pt (F := F) c (Memref.whole cc0_stg3_0) f) ∗ (∃ f, pt (F := F) c (Memref.whole cc0_scratch0) f)
    ∗ (∃ f, pt (F := F) c (Memref.whole cc0_scratch3) f)
    ∗ (∃ f, pt (F := F) c (Memref.whole cc0_scratch5) f) ∗ (∃ f, pt (F := F) c (Memref.whole cc0_scratch6) f)
    ∗ bigSep Finset.univ (fun j : Fin 8 => stageAny (F := F) c j) ∗ agAny (F := F) c c
    ∗ bigSep Finset.univ (fun i : Fin 16 => (semVal (loc c i) 0 : sProp 𝕄)))

omit [FloatOps F] in
theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem sep16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

end Cert.KernelIdeal.Ring

end
-- ==== Proof.Glue.lean ====
/-
What a device holds around the statements of the exchange: a staged chunk written, the landed chunks joined to the whole
receive buffer, the result joined from its rows, the reading shares of the finished chunk.
-/
module

public import proofs.«01_k».proof.Proof.Pre
public import Idealize.ShloMosaic.Lib.Ring

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (I : Sp F) (K : Dev nD × Fin 18 → ℕ) (c : Dev nD)

/-! ## The staged chunks -/

section Slot
variable {sp : Space} {s s' : Shape} {e : EltTy} (m : Memref sig .tc sp s e) (r : Rect s) (h1 : ∀ a, r.stride a = 1)
  (hq : r.shape.Squeezes s')

omit [FloatOps F] in
theorem slot_set : ((m.slice r h1).squeeze s' hq).view.set = m.view.setOn r.set :=
  (View.set_reshape _ _).trans (View.set_slice _ _)

omit [FloatOps F] in
/-- What a store through the rectangle leaves, read through the squeezed slice. -/
theorem slot_read (f : m.view.ty.Contents (Elt F)) (w : r.shape.Idx → Elt F e) (x : s'.Idx) :
    ((m.slice r h1).squeeze s' hq).view.read (Elt F) ((m.access r).write (Elt F) f w Finset.univ) x = w (Shape.reshapeEquiv hq.numel_eq x) :=
  congrFun (View.read_write_univ (Val := Elt F) (v := m.access r) f w) (Shape.reshapeEquiv hq.numel_eq x)
end Slot

section Stage
variable {α : Type} {Q : α → sProp (MT nD τ sig Unit (Elt F) ℕ UU ℕ)}

theorem step_peek (j : Fin 8) {hl} {kk : (S1x32x1152.Idx → Elt F .bf16) → Prog (TpuEff nD τ sig (Elt F) Λ₀ .tc) α} :
    stageAny (F := F) c j
      ⊢ iprop((∀ v, stageAny (F := F) c j -∗ wp frame (wpE (defs₀ (F := F)) 𝒱₀ (c : Thread nD τ) none) Set.univ (kk v) Q)
        -∗ wp frame (wpE (defs₀ (F := F)) 𝒱₀ (c : Thread nD τ) none) Set.univ
          (.op (.load stageM (Rect.unit (s := S8x32x1152) ![j.val, 0, 0] S1x32x1152.size (stage_inb j)).toLoadRect hl) kk) Q) := by
  unfold stageAny stagePts
  iintro ⟨%f, H⟩ Hk
  iapply (wp_load 𝒱₀ (c : Thread nD τ) none Set.univ (m := stageM)
    (r := (Rect.unit (s := S8x32x1152) ![j.val, 0, 0] S1x32x1152.size (stage_inb j)).toLoadRect) (S := (stageSlot j).view.set) (f := f)
    (subset_of_eq (slot_set stageM (Rect.unit (s := S8x32x1152) ![j.val, 0, 0] S1x32x1152.size (stage_inb j)) (fun _ => rfl) squeezes_S1x32x1152_S32x1152).symm)) $$ [H]
  · iexact H
  iintro H
  iapply Hk
  iexists f; iexact H

theorem step_put (j : Fin 8) (v : FVec F S32x1152 .bf16) {w : FVec F S1x32x1152 .bf16} (hw : w = shapeCast S1x32x1152 v shapeCasts_S32x1152_S1x32x1152)
    {hx hm} {kk : PUnit → Prog (TpuEff nD τ sig (Elt F) Λ₀ .tc) α} :
    stageAny (F := F) c j
      ⊢ iprop((∀ f, ⌜(stageSlot j).view.read (Elt F) f = v⌝ -∗ stagePts (F := F) c j f -∗ wp frame (wpE (defs₀ (F := F)) 𝒱₀ (c : Thread nD τ) none) Set.univ (kk ⟨⟩) Q)
        -∗ wp frame (wpE (defs₀ (F := F)) 𝒱₀ (c : Thread nD τ) none) Set.univ
          (.op (.store stageM (Rect.unit (s := S8x32x1152) ![j.val, 0, 0] S1x32x1152.size (stage_inb j)) w Finset.univ hx hm) kk) Q) := by
  subst hw
  unfold stageAny stagePts
  iintro ⟨%f, H⟩ Hk
  iapply (wp_store 𝒱₀ (c : Thread nD τ) none Set.univ (m := stageM)
    (r := Rect.unit (s := S8x32x1152) ![j.val, 0, 0] S1x32x1152.size (stage_inb j)) (S := (stageSlot j).view.set) (f := f)
    (subset_of_eq ((View.set_slice _ _).trans (slot_set stageM (Rect.unit (s := S8x32x1152) ![j.val, 0, 0] S1x32x1152.size (stage_inb j)) (fun _ => rfl) squeezes_S1x32x1152_S32x1152).symm))) $$ [H]
  · iexact H
  iintro H
  have hr : (stageSlot j).view.read (Elt F) ((stageM.access (Rect.unit (s := S8x32x1152) ![j.val, 0, 0] S1x32x1152.size (stage_inb j))).write (Elt F) f
      (shapeCast S1x32x1152 v shapeCasts_S32x1152_S1x32x1152) Finset.univ) = v := by
    funext x
    refine (slot_read stageM _ (fun _ => rfl) squeezes_S1x32x1152_S32x1152 f _ x).trans ?_
    exact congrArg v ((Shape.reshapeEquiv_reshapeEquiv _ _ _).trans (Shape.reshapeEquiv_self _ _))
  iapply Hk
  · ipureintro; exact hr
  · iexact H

end Stage

/-! ## After the barrier -/

theorem notes_split :
    iprop(bigSep (Finset.univ.erase c) (fun s => barPay (F := F) c s) ∗ bigSep Finset.univ (fun j : Fin 8 => sendToks (F := F) c j))
      ⊢ iprop(bigSep Finset.univ (fun j : Fin 8 => sendPre (F := F) c j) ∗ bigSep Finset.univ (fun k : Fin 7 => agAny (F := F) (pr c k) c)) := by
  have e1 : bigSep (Finset.univ.erase c) (fun s => barPay (F := F) c s)
      = iprop(bigSep (Finset.univ.erase c) (fun s => recvAny (F := F) s (slot c s)) ∗ bigSep (Finset.univ.erase c) (fun s => agAny (F := F) s c)) :=
    bigSep_sep _ _ _
  have e2 : bigSep (Finset.univ.erase c) (fun s => agAny (F := F) s c) = bigSep Finset.univ (fun k : Fin 7 => agAny (F := F) (pr c k) c) := by
    rw [univ_erase, bigSep_image_of_injOn fun _ _ _ _ h => pr_inj c h]
  have e3 : bigSep Finset.univ (fun j : Fin 8 => sendToks (F := F) c j)
      = bigSep (Finset.univ.erase c) (fun j : Fin 8 => iprop(dutyTok ER (rsCell j) 0 c ∗ dutyTok ER (rsOut c j) 0 0)) := by
    rw [bigSep_erase (i := c) (Finset.mem_univ c)]
    rw [show sendToks (F := F) c c = iprop(emp) by unfold sendToks; rw [if_pos rfl]]
    refine (equiv_iff.mp emp_sep).trans ?_
    exact bigSep_congr fun j hj => by unfold sendToks; rw [if_neg (Finset.ne_of_mem_erase hj)]
  have e4 : bigSep Finset.univ (fun j : Fin 8 => sendPre (F := F) c j)
      = iprop(bigSep (Finset.univ.erase c) (fun s => recvAny (F := F) s (slot c s))
        ∗ bigSep (Finset.univ.erase c) (fun j : Fin 8 => iprop(dutyTok ER (rsCell j) 0 c ∗ dutyTok ER (rsOut c j) 0 0))) := by
    rw [bigSep_erase (i := c) (Finset.mem_univ c)]
    rw [show sendPre (F := F) c c = iprop(emp) by unfold sendPre; rw [if_pos rfl]]
    refine (equiv_iff.mp emp_sep).trans ?_
    refine Eq.trans (bigSep_congr fun j hj => ?_) (bigSep_sep _ _ _)
    unfold sendPre; rw [if_neg (Finset.ne_of_mem_erase hj)]; rfl
  rw [e1, e2, e3, e4]
  iintro ⟨⟨H1, H2⟩, H3⟩
  isplitr [H2]
  · isplitl [H1]; · iexact H1
    iexact H3
  · iexact H2

/-! ## Whole buffers and their parts -/

def recvS (k : Fin 7) : Finset S7x32x1152.Idx := (Rect.unit (s := S7x32x1152) ![k.val, 0, 0] S1x32x1152.size (recv_inb k)).set
def stageS (j : Fin 8) : Finset S8x32x1152.Idx := (Rect.unit (s := S8x32x1152) ![j.val, 0, 0] S1x32x1152.size (stage_inb j)).set
def rowsS (d : Dev nD) : Finset S256x1024.Idx := (Rect.unit (s := S256x1024) ![32 * d.val, 0] S32x1024.size (rows_inb d)).set

theorem recv_set (k : Fin 7) : (recvSlot k).view.set = recvS k := (View.set_reshape _ _).trans (View.set_slice_whole _ _)
theorem stage_set (j : Fin 8) : (stageSlot j).view.set = stageS j := (View.set_reshape _ _).trans (View.set_slice_whole _ _)
theorem rows_set (d : Dev nD) : (agRows d).view.set = rowsS d := View.set_slice_whole _ _

theorem recv_disj (k k' : Fin 7) (h : k ≠ k') : Disjoint (recvS k) (recvS k') :=
  lead_disjoint (s := S7x32x1152) 0 1 (fun k : Fin 7 => ![k.val, 0, 0]) S1x32x1152.size recv_inb (by decide) rfl k k' h
theorem stage_disj (k k' : Fin 8) (h : k ≠ k') : Disjoint (stageS k) (stageS k') :=
  lead_disjoint (s := S8x32x1152) 0 1 (fun k : Fin 8 => ![k.val, 0, 0]) S1x32x1152.size stage_inb (by decide) rfl k k' h
theorem rows_disj (k k' : Dev nD) (h : k ≠ k') : Disjoint (rowsS k) (rowsS k') :=
  lead_disjoint (s := S256x1024) 0 32 (fun k : Fin 8 => ![32 * k.val, 0]) S32x1024.size rows_inb (by decide) rfl k k' h
theorem recv_cover : Finset.univ.biUnion recvS = Finset.univ :=
  lead_cover (s := S7x32x1152) 0 1 (fun k : Fin 7 => ![k.val, 0, 0]) S1x32x1152.size recv_inb (by decide) (by decide) rfl (by decide) (by decide)
theorem stage_cover : Finset.univ.biUnion stageS = Finset.univ :=
  lead_cover (s := S8x32x1152) 0 1 (fun k : Fin 8 => ![k.val, 0, 0]) S1x32x1152.size stage_inb (by decide) (by decide) rfl (by decide) (by decide)
theorem rows_cover : Finset.univ.biUnion rowsS = Finset.univ :=
  lead_cover (s := S256x1024) 0 32 (fun k : Fin 8 => ![32 * k.val, 0]) S32x1024.size rows_inb (by decide) (by decide) rfl (by decide) (by decide)

theorem recvPts_eq (k : Fin 7) (f : Bf (F := F) c recvM) : recvPts (F := F) c k f = (recvM.view.loc (c : Thread nD τ) ↦[recvS k]{fullShare} f : sProp 𝕄) := by
  rw [← recv_set]; rfl
theorem stagePts_eq (k : Fin 8) (f : Bf (F := F) c stageM) : stagePts (F := F) c k f = (stageM.view.loc (c : Thread nD τ) ↦[stageS k]{fullShare} f : sProp 𝕄) := by
  rw [← stage_set]; rfl
theorem agPts_eq (k : Dev nD) (f : Bf (F := F) c agM) : agPts (F := F) c k f = (agM.view.loc (c : Thread nD τ) ↦[rowsS k]{fullShare} f : sProp 𝕄) := by
  rw [← rows_set]; rfl

theorem stageAny_intro (j : Fin 8) (f : Bf (F := F) c stageM) : (stageM.view.loc (c : Thread nD τ) ↦[stageS j]{fullShare} f : sProp 𝕄) ⊢ stageAny (F := F) c j := by
  rw [← stagePts_eq c j f]
  unfold stageAny
  exact exists_intro (Φ := fun f => stagePts (F := F) c j f) f
theorem recvAny_intro (j : Fin 7) (f : Bf (F := F) c recvM) : (recvM.view.loc (c : Thread nD τ) ↦[recvS j]{fullShare} f : sProp 𝕄) ⊢ recvAny (F := F) c j := by
  rw [← recvPts_eq c j f]
  unfold recvAny
  exact exists_intro (Φ := fun f => recvPts (F := F) c j f) f
theorem agAny_intro (j : Dev nD) (f : Bf (F := F) c agM) : (agM.view.loc (c : Thread nD τ) ↦[rowsS j]{fullShare} f : sProp 𝕄) ⊢ agAny (F := F) c j := by
  rw [← agPts_eq c j f]
  unfold agAny
  exact exists_intro (Φ := fun f => agPts (F := F) c j f) f
theorem stageAny_eq (j : Fin 8) : stageAny (F := F) c j = iprop(∃ f : Bf (F := F) c stageM, (stageM.view.loc (c : Thread nD τ) ↦[stageS j]{fullShare} f)) :=
  congrArg BIBase.exists (funext fun f => stagePts_eq c j f)

theorem stage_split (f : Bf (F := F) c stageM) : pt c stageM f ⊢ bigSep Finset.univ (fun j : Fin 8 => stageAny (F := F) c j) :=
  (Entails.of_eq (pointsTo_blocks (ℓ := stageM.view.loc (c : Thread nD τ)) (Val := Elt F) (Ix := Unit) (Name := ℕ) (U := UU) (Lvl := ℕ) stageS stage_disj stage_cover f)).trans (bigSep_mono fun j _ => stageAny_intro c j f)
theorem stage_join : bigSep Finset.univ (fun j : Fin 8 => stageAny (F := F) c j) ⊢ (iprop(∃ f, pt (F := F) c stageM f) : sProp 𝕄) :=
  (bigSep_mono fun j _ => Entails.of_eq (stageAny_eq c j)).trans
    (pointsTo_blocks_join_exists (ℓ := stageM.view.loc (c : Thread nD τ)) (Val := Elt F) (Ix := Unit) (Name := ℕ) (U := UU) (Lvl := ℕ) stageS stage_disj stage_cover (fun _ => Classical.choice inferInstance))
theorem recv_split (f : Bf (F := F) c recvM) : pt c recvM f ⊢ bigSep Finset.univ (fun k : Fin 7 => recvAny (F := F) c k) :=
  (Entails.of_eq (pointsTo_blocks (ℓ := recvM.view.loc (c : Thread nD τ)) (Val := Elt F) (Ix := Unit) (Name := ℕ) (U := UU) (Lvl := ℕ) recvS recv_disj recv_cover f)).trans (bigSep_mono fun j _ => recvAny_intro c j f)
theorem ag_split (f : Bf (F := F) c agM) : pt c agM f ⊢ bigSep Finset.univ (fun d : Dev nD => agAny (F := F) c d) :=
  (Entails.of_eq (pointsTo_blocks (ℓ := agM.view.loc (c : Thread nD τ)) (Val := Elt F) (Ix := Unit) (Name := ℕ) (U := UU) (Lvl := ℕ) rowsS rows_disj rows_cover f)).trans (bigSep_mono fun j _ => agAny_intro c j f)

/-- The seven landed chunks are the whole receive buffer. -/
theorem recv_join : bigSep (Finset.univ.erase c) (fun s => rsPay I c s)
    ⊢ (iprop(∃ g, ⌜∀ s, s ≠ c → I.Ok s c ((recvSlot (slot s c)).view.read (Elt F) g)⌝ ∗ pt c recvM g) : sProp 𝕄) := by
  have hN : ∀ s : Dev nD, Nonempty (Bf (F := F) c recvM) := fun _ => ⟨fun _ => Classical.choice inferInstance⟩
  unfold rsPay
  simp only [recvPts_eq]
  refine (bigSep_exists_pi (Y := fun _ => Bf (F := F) c recvM) (Finset.univ.erase c)
    (fun s f => iprop(⌜I.Ok s c ((recvSlot (slot s c)).view.read (Elt F) f)⌝ ∗ (recvM.view.loc (c : Thread nD τ) ↦[recvS (slot s c)]{fullShare} f)))).trans ?_
  refine exists_elim fun y => ?_
  refine (bigSep_pure_sep (Finset.univ.erase c) (fun s => I.Ok s c ((recvSlot (slot s c)).view.read (Elt F) (y s)))
    (fun s => (recvM.view.loc (c : Thread nD τ) ↦[recvS (slot s c)]{fullShare} y s))).trans ?_
  have hu : (Finset.univ.erase c : Finset (Dev nD)).biUnion (fun s => recvS (slot s c)) = Finset.univ := by
    rw [← recv_cover, slots_to c, Finset.image_biUnion]
  have hj := pointsTo_biUnion_join (nD := nD) (τ := τ) (sig := sig) (Ix := Unit) (Val := Elt F) (Name := ℕ) (U := UU) (Lvl := ℕ) (q := fullShare) (ℓ := recvM.view.loc (c : Thread nD τ)) (Finset.univ.erase c) (fun s : Dev nD => recvS (slot s c)) y (y c)
    (fun s hs s' hs' hne => recv_disj _ _ fun e => hne (slot_inj c s hs s' hs' e))
  rw [hu] at hj
  iintro ⟨%hOk, H⟩
  ihave H2 := hj $$ H
  icases H2 with ⟨%g, %hg, H⟩
  iexists g
  isplitr
  · ipureintro
    intro s hs
    have hm : s ∈ Finset.univ.erase c := Finset.mem_erase.mpr ⟨hs, Finset.mem_univ s⟩
    rw [View.read_congr (g := y s) fun i hi => hg s hm i (by rw [recv_set] at hi; exact hi)]
    exact hOk s hm
  · iexact H

/-- The own rows and the seven landed ones are the whole result. -/
theorem ag_join : iprop(agPts c c I.all ∗ bigSep (Finset.univ.erase c) (fun s => agPay I c s)) ⊢ (pt c agM I.all : sProp 𝕄) := by
  have e : (pt c agM I.all : sProp 𝕄) = iprop(agPts c c I.all ∗ bigSep (Finset.univ.erase c) (fun s => agPay I c s)) := by
    refine (pointsTo_blocks (ℓ := agM.view.loc (c : Thread nD τ)) (Val := Elt F) (Ix := Unit) (Name := ℕ) (U := UU) (Lvl := ℕ) rowsS rows_disj rows_cover I.all).trans ?_
    rw [bigSep_erase (i := c) (Finset.mem_univ c)]
    exact congrArg₂ BI.sep (agPts_eq c c I.all).symm (bigSep_congr fun s _ => (agPts_eq c s I.all).symm)
  exact Entails.of_eq e.symm

theorem ownPts_eq (k : Fin 7) (f : Bf (F := F) c agsM) :
    ownPts (F := F) c k f = (agsM.view.loc (c : Thread nD τ) ↦{Transfers.shareTokN fullShare k.val} f : sProp 𝕄) := by
  unfold ownPts
  exact congrArg (fun S => (agsM.view.loc (c : Thread nD τ) ↦[S]{Transfers.shareTokN fullShare k.val} f : sProp 𝕄)) (View.set_whole cc0_scratch3)
theorem own_eq (f : Bf (F := F) c agsM) : (pt c agsM f : sProp 𝕄)
    = iprop((agsM.view.loc (c : Thread nD τ) ↦{Transfers.shareDrop fullShare 7} f) ∗ bigSep Finset.univ (fun k : Fin 7 => ownPts (F := F) c k f)) := by
  rw [bigSep_congr (s := (Finset.univ : Finset (Fin 7))) (Φ := fun k => ownPts (F := F) c k f)
    (Ψ := fun k => (agsM.view.loc (c : Thread nD τ) ↦{Transfers.shareTokN fullShare k.val} f)) fun k _ => ownPts_eq c k f]
  have h := Transfers.pointsTo_toks (Ix := Unit) (Name := ℕ) (U := UU) (Lvl := ℕ) (ℓ := agsM.view.loc (c : Thread nD τ)) (S := Finset.univ) (f := f) fullShare 7
  exact equiv_iff.mp ⟨h.1, h.2⟩

/-! ## The own rows of the result -/

section Own
variable {α : Type} {Q : α → sProp (MT nD τ sig Unit (Elt F) ℕ UU ℕ)}

/-- A chunk written into the own rows is the result there. -/
theorem rows_written (hall : ∀ d, (agRows d).view.read (Elt F) I.all = I.own d) (e d : Dev nD) (g : Bf (F := F) e (agRows d)) :
    agPts (F := F) e d ((agRows d).view.write (Elt F) g (I.own d) Finset.univ) ⊢ agPts e d I.all := by
  unfold agPts
  refine Entails.of_eq (pointsTo_congr fun i hi => ?_)
  obtain ⟨x, -, rfl⟩ := Finset.mem_map.mp hi
  have h1 := congrFun (View.read_write_univ (Val := Elt F) (v := (agRows d).view) g (I.own d)) x
  have h2 := congrFun (hall d) x
  rw [← h2] at h1
  exact h1

theorem step_rows_peek {off : Fin 2 → ℕ} (hoff : off = ![32 * c.val, 0]) (hinb : ∀ a, off a + S32x1024.size a ≤ S256x1024.size a) {hl}
    {kk : (S32x1024.Idx → Elt F .bf16) → Prog (TpuEff nD τ sig (Elt F) Λ₀ .tc) α} :
    agAny (F := F) c c
      ⊢ iprop((∀ v, agAny (F := F) c c -∗ wp frame (wpE (defs₀ (F := F)) 𝒱₀ (c : Thread nD τ) none) Set.univ (kk v) Q)
        -∗ wp frame (wpE (defs₀ (F := F)) 𝒱₀ (c : Thread nD τ) none) Set.univ
          (.op (.load agM (Rect.unit (s := S256x1024) off S32x1024.size hinb).toLoadRect hl) kk) Q) := by
  subst hoff
  unfold agAny agPts
  iintro ⟨%f, H⟩ Hk
  iapply (wp_load 𝒱₀ (c : Thread nD τ) none Set.univ (m := agM)
    (r := (Rect.unit (s := S256x1024) ![32 * c.val, 0] S32x1024.size (rows_inb c)).toLoadRect) (S := (agRows c).view.set) (f := f)
    (subset_of_eq (View.set_slice _ _).symm)) $$ [H]
  · iexact H
  iintro H
  iapply Hk
  iexists f; iexact H

theorem step_rows_put (hall : ∀ d, (agRows d).view.read (Elt F) I.all = I.own d) {off : Fin 2 → ℕ} (hoff : off = ![32 * c.val, 0])
    (hinb : ∀ a, off a + S32x1024.size a ≤ S256x1024.size a) {w : FVec F S32x1024 .bf16} (hw : w = I.own c)
    {hx hm} {kk : PUnit → Prog (TpuEff nD τ sig (Elt F) Λ₀ .tc) α} :
    agAny (F := F) c c
      ⊢ iprop((agPts (F := F) c c I.all -∗ wp frame (wpE (defs₀ (F := F)) 𝒱₀ (c : Thread nD τ) none) Set.univ (kk ⟨⟩) Q)
        -∗ wp frame (wpE (defs₀ (F := F)) 𝒱₀ (c : Thread nD τ) none) Set.univ
          (.op (.store agM (Rect.unit (s := S256x1024) off S32x1024.size hinb) w Finset.univ hx hm) kk) Q) := by
  subst hoff hw
  unfold agAny
  iintro ⟨%f, H⟩ Hk
  iapply (wp_store 𝒱₀ (c : Thread nD τ) none Set.univ (m := agM)
    (r := Rect.unit (s := S256x1024) ![32 * c.val, 0] S32x1024.size (rows_inb c)) (S := (agRows c).view.set) (f := f)
    (subset_of_eq rfl)) $$ [H]
  · unfold agPts; iexact H
  iintro H
  iapply Hk
  iapply (rows_written I hall c c f)
  unfold agPts; iexact H

end Own

/-- A guarded statement before the rest of a program. -/
theorem wp_guard {α : Type} {Q : α → sProp (MT nD τ sig Unit (Elt F) ℕ UU ℕ)} {p : Prop} [Decidable p] {e : p → TpuEff nD τ sig (Elt F) Λ₀ .tc PUnit}
    {jp : Prog (TpuEff nD τ sig (Elt F) Λ₀ .tc) α} :
    wp frame (wpE (defs₀ (F := F)) 𝒱₀ (c : Thread nD τ) none) Set.univ (if h : p then .op (e h) (fun _ => jp) else jp) Q
      = wp frame (wpE (defs₀ (F := F)) 𝒱₀ (c : Thread nD τ) none) Set.univ
          (if h : p then (.op (e h) (fun _ => .ret ⟨⟩) : Prog (TpuEff nD τ sig (Elt F) Λ₀ .tc) PUnit) else .ret ⟨⟩)
          (fun _ => wp frame (wpE (defs₀ (F := F)) 𝒱₀ (c : Thread nD τ) none) Set.univ jp Q) := by
  rw [← wp_bind]
  congr 1
  by_cases h : p
  · rw [dif_pos h, dif_pos h]; rfl
  · rw [dif_neg h, dif_neg h]; rfl

/-- A counter whose round is over is at zero. -/
theorem close_at {g : GSem nD τ sig} (ck : Dev nD × Fin 18) (h : kcell ck = g) :
    iprop(recs I K ∗ atPos ER g 1 ∅ 0) ⊢ |={Set.univ}=> semVal g 0 := by
  iintro ⟨#HR, HA⟩
  imod (Rounds.cell_close ER (ringRd I) (Set.mem_univ (K ck)) (fun h => h) (R := 0 + 1) (duties_later I g)) $$ [HA] with HV
  · isplitr; · iapply (inv_at I K ck h); iexact HR
    iexact HA
  imodintro
  iexact HV

end Cert.KernelIdeal.Ring
-- ==== Proof.Deal.lean ====
/-
The counters and the rights to raise them, dealt to the devices when they start: every right goes to the device that
uses it.
-/
module

public import proofs.«01_k».proof.Proof.Glue

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The counters at zero -/

omit [FloatOps F] in
theorem rot (A B C : sProp 𝕄) : iprop((B ∗ C) ∗ A) = iprop((A ∗ B) ∗ C) := by
  have h1 : iprop((B ∗ C) ∗ A) ⊢ iprop((A ∗ B) ∗ C) := by
    iintro ⟨⟨H1, H2⟩, H3⟩
    isplitl [H1 H3]
    · isplitl [H3] <;> iassumption
    iexact H2
  have h2 : iprop((A ∗ B) ∗ C) ⊢ iprop((B ∗ C) ∗ A) := by
    iintro ⟨⟨H1, H2⟩, H3⟩
    isplitl [H2 H3]
    · isplitl [H2] <;> iassumption
    iexact H1
  exact equiv_iff.mp ⟨h1, h2⟩
omit [FloatOps F] in
theorem five (A B C D E : sProp 𝕄) : iprop(A ∗ B ∗ C ∗ D ∗ E) ⊢ iprop(A ∗ (B ∗ D) ∗ C ∗ E) := by
  iintro ⟨H1, H2, H3, H4, H5⟩
  isplitl [H1]; · iexact H1
  isplitl [H2 H4]
  · isplitl [H2] <;> iassumption
  isplitl [H3] <;> iassumption

set_option backward.proofsInPublic true in
/-- The kernel's own counters: the copies' counters 4 … 36. -/
abbrev osem (i : Fin 33) : SemLoc sig := .dma (dq (4 + i.val) (by omega))

omit [FloatOps F] in
theorem sep18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

omit [FloatOps F] in
/-- The eighteen counters, sorted by what they count. -/
theorem sort18 (c : Dev nD) (Φ : GSem nD τ sig → sProp 𝕄) : bigSep Finset.univ (fun k : Fin 18 => Φ (kcell (c, k)))
    ⊢ iprop(Φ (barCell c) ∗ Φ (rsCell c) ∗ Φ (agCell c) ∗ bigSep Finset.univ (fun j : Fin 8 => Φ (rsOut c j)) ∗ bigSep Finset.univ (fun k : Fin 7 => Φ (agOut c k))) := by
  rw [sep18, sep8, sep7]
  show iprop(Φ (barCell c) ∗ Φ (rsOut c 0) ∗ Φ (rsOut c 1) ∗ Φ (rsOut c 2) ∗ Φ (rsOut c 3) ∗ Φ (rsOut c 4) ∗ Φ (rsOut c 5) ∗ Φ (rsOut c 6) ∗ Φ (rsOut c 7) ∗ Φ (rsCell c) ∗ Φ (agOut c 0) ∗ Φ (agOut c 1) ∗ Φ (agOut c 2) ∗ Φ (agOut c 3) ∗ Φ (agOut c 4) ∗ Φ (agOut c 5) ∗ Φ (agOut c 6) ∗ Φ (agCell c)) ⊢ _
  iintro ⟨H0, A0, A1, A2, A3, A4, A5, A6, A7, H9, B0, B1, B2, B3, B4, B5, B6, H17⟩
  isplitl [H0]; · iexact H0
  isplitl [H9]; · iexact H9
  isplitl [H17]; · iexact H17
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0]; · iexact B0
  isplitl [B1]; · iexact B1
  isplitl [B2]; · iexact B2
  isplitl [B3]; · iexact B3
  isplitl [B4]; · iexact B4
  isplitl [B5]; · iexact B5
  iexact B6

omit [FloatOps F] in
theorem unsort18 (c : Dev nD) (Φ : GSem nD τ sig → sProp 𝕄) :
    iprop(Φ (barCell c) ∗ Φ (rsCell c) ∗ Φ (agCell c) ∗ bigSep Finset.univ (fun j : Fin 8 => Φ (rsOut c j)) ∗ bigSep Finset.univ (fun k : Fin 7 => Φ (agOut c k)))
    ⊢ bigSep Finset.univ (fun k : Fin 18 => Φ (kcell (c, k))) := by
  rw [sep18, sep8, sep7]
  show _ ⊢ iprop(Φ (barCell c) ∗ Φ (rsOut c 0) ∗ Φ (rsOut c 1) ∗ Φ (rsOut c 2) ∗ Φ (rsOut c 3) ∗ Φ (rsOut c 4) ∗ Φ (rsOut c 5) ∗ Φ (rsOut c 6) ∗ Φ (rsOut c 7) ∗ Φ (rsCell c) ∗ Φ (agOut c 0) ∗ Φ (agOut c 1) ∗ Φ (agOut c 2) ∗ Φ (agOut c 3) ∗ Φ (agOut c 4) ∗ Φ (agOut c 5) ∗ Φ (agOut c 6) ∗ Φ (agCell c))
  iintro ⟨H0, H9, H17, ⟨A0, A1, A2, A3, A4, A5, A6, A7⟩, B0, B1, B2, B3, B4, B5, B6⟩
  isplitl [H0]; · iexact H0
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [H9]; · iexact H9
  isplitl [B0]; · iexact B0
  isplitl [B1]; · iexact B1
  isplitl [B2]; · iexact B2
  isplitl [B3]; · iexact B3
  isplitl [B4]; · iexact B4
  isplitl [B5]; · iexact B5
  isplitl [B6]; · iexact B6
  iexact H17

omit [FloatOps F] in
/-- The exchange's eighteen counters and the local copies' sixteen, all at zero, are the counters a device starts with. -/
theorem sems0_eq (c : Dev nD) :
    (iprop(Pipeline.ownSems0 (Ix := Unit) (Name := ℕ) (U := UU) (Lvl := ℕ) (Val := Elt F) (τ := τ) osem c ∗ unscopedSems0 c) : sProp 𝕄)
      = iprop(bigSep Finset.univ (fun k : Fin 18 => semVal (kcell (c, k)) 0) ∗ bigSep Finset.univ (fun i : Fin 16 => semVal (loc c i) 0)) := by
  have e1 : (unscopedSems0 c : sProp 𝕄) = semVal (barCell c) 0 := by
    unfold unscopedSems0; rw [bigSep_eq_bigSepL_of_eq [SemLoc.reg barS] (by decide) (by decide)]; rfl
  have e2 : (Pipeline.ownSems0 (Ix := Unit) (Name := ℕ) (U := UU) (Lvl := ℕ) (Val := Elt F) (τ := τ) osem c : sProp 𝕄)
      = iprop(bigSep Finset.univ (fun i : Fin 17 => semVal (kcell (c, i.succ)) 0) ∗ bigSep Finset.univ (fun i : Fin 16 => semVal (loc c i) 0)) := by
    unfold Pipeline.ownSems0
    refine ((bigSep_univ_equiv (finSumFinEquiv (m := 17) (n := 16)) (fun k : Fin 33 => (semVal (((c : Thread nD τ), osem k) : GSem nD τ sig) 0 : sProp 𝕄))).trans (bigSep_univ_sum _)).trans ?_
    refine congrArg₂ BI.sep (bigSep_congr fun i _ => ?_) (bigSep_congr fun i _ => ?_)
    · exact congrArg (fun g : GSem nD τ sig => (semVal g 0 : sProp 𝕄)) (by fin_cases i <;> rfl)
    · exact congrArg (fun g : GSem nD τ sig => (semVal g 0 : sProp 𝕄)) (by fin_cases i <;> rfl)
  have e3 : bigSep Finset.univ (fun k : Fin 18 => (semVal (kcell (c, k)) 0 : sProp 𝕄))
      = iprop(semVal (barCell c) 0 ∗ bigSep Finset.univ (fun i : Fin 17 => semVal (kcell (c, i.succ)) 0)) := by
    rw [bigSep_erase (i := 0) (Finset.mem_univ _)]
    refine congrArg₂ BI.sep rfl ?_
    rw [show (Finset.univ.erase 0 : Finset (Fin 18)) = Finset.univ.image Fin.succ by decide, bigSep_image_of_injOn fun _ _ _ _ h => Fin.succ_injective _ h]
  rw [e1, e2, e3]
  exact rot _ _ _

/-! ## The rights -/

theorem kcell_injective : Function.Injective (kcell : Dev nD × Fin 18 → GSem nD τ sig) := by
  rintro ⟨c, k⟩ ⟨c', k'⟩ h
  obtain rfl : c = c' := congrArg (fun g : GSem nD τ sig => g.1.1) h
  have h2 : ∀ k k' : Fin 18, csem k = csem k' → k = k' := by decide
  rw [h2 k k' (congrArg Prod.snd h)]

def ringCells : Finset (GSem nD τ sig) := Finset.univ.map ⟨kcell, kcell_injective⟩

/-- Who may raise counter `k` of device `c`. -/
abbrev raisers (c : Dev nD) (k : Fin 18) : Finset (Dev nD) := dutiesOf c (cls (csem k))

theorem tok_injective : Function.Injective (fun x : Dev nD × Fin 18 × Dev nD => ((kcell (x.1, x.2.1), 0, x.2.2) : GSem nD τ sig × ℕ × Dev nD)) := by
  rintro ⟨c, k, d⟩ ⟨c', k', d'⟩ h
  have h1 := kcell_injective (congrArg Prod.fst h)
  have h2 : d = d' := congrArg (fun x : GSem nD τ sig × ℕ × Dev nD => x.2.2) h
  cases h1; cases h2; rfl
def ringToks : Finset (GSem nD τ sig × ℕ × Dev nD) :=
  (Finset.univ.filter fun x : Dev nD × Fin 18 × Dev nD => x.2.2 ∈ raisers x.1 x.2.1).map ⟨_, tok_injective⟩

/-- The rights to raise a device's own counters. -/
def toks (c : Dev nD) : sProp 𝕄 :=
  bigSep Finset.univ fun k : Fin 18 => bigSep (raisers c k) fun d => dutyTok ER (kcell (c, k)) 0 d

omit [FloatOps F] in
theorem toks_eq : (bigSep ringToks fun x => (dutyTok ER x.1 x.2.1 x.2.2 : sProp 𝕄)) = bigSep Finset.univ fun c : Dev nD => toks c := by
  unfold ringToks toks
  rw [bigSep_map, bigSep_filter, bigSep_univ_prod]
  refine bigSep_congr fun c _ => (bigSep_univ_prod _).trans (bigSep_congr fun k _ => ?_)
  refine (bigSep_filter Finset.univ (fun d => d ∈ raisers c k) (fun d => (dutyTok ER (kcell (c, k)) 0 d : sProp 𝕄))).symm.trans ?_
  rw [Finset.filter_mem_eq_inter, Finset.univ_inter]

variable (I : Sp F)

/-- What a device's counters come with: each at its first round, the rights to raise them. -/
def dealt (c : Dev nD) : sProp 𝕄 :=
  iprop((bigSep Finset.univ fun k : Fin 18 => roundState ER (ringRd I) (kcell (c, k)) 0)
    ∗ (bigSep Finset.univ fun k : Fin 18 => iprop(atPos ER (kcell (c, k)) 0 ∅ 0 ∗ reached ER (kcell (c, k)) 0)) ∗ toks c)

theorem deal : BI.own (ER (initOf ringCells ringToks)) ⊢ (|==> bigSep Finset.univ (dealt I) : sProp 𝕄) := by
  have hX (Φ : GSem nD τ sig → sProp 𝕄) : bigSep ringCells Φ = bigSep Finset.univ fun c : Dev nD => bigSep Finset.univ fun k : Fin 18 => Φ (kcell (c, k)) := by
    unfold ringCells; rw [bigSep_map, bigSep_univ_prod]; rfl
  iintro HX
  imod (Rounds.fund ER (ringRd I) ringCells ringToks) $$ HX with ⟨Hs, Hr, Ha, Ht⟩
  imodintro
  ihave Hs := (Entails.of_eq (hX fun g => roundState ER (ringRd I) g 0)) $$ Hs
  ihave Ha := (Entails.of_eq (hX fun g => atPos ER g 0 ∅ 0)) $$ Ha
  ihave Hr := (Entails.of_eq (hX fun g => reached ER g 0)) $$ Hr
  ihave Ht := (Entails.of_eq toks_eq) $$ Ht
  unfold dealt; simp only [bigSep_sep']
  isplitl [Hs]; · iexact Hs
  isplitl [Ha Hr]
  · isplitl [Ha] <;> iassumption
  iexact Ht

/-! ## From the owner to the user -/

omit [FloatOps F] in
/-- A family over the ordered pairs of different devices, by the first or by the second one. -/
theorem swap_pairs (T : Dev nD → Dev nD → sProp 𝕄) :
    (bigSep Finset.univ fun c : Dev nD => bigSep (Finset.univ.erase c) fun d => T c d)
      = bigSep Finset.univ fun c : Dev nD => bigSep (Finset.univ.erase c) fun d => T d c := by
  have e : ∀ (U : Dev nD → Dev nD → sProp 𝕄), (bigSep Finset.univ fun c : Dev nD => bigSep (Finset.univ.erase c) fun d => U c d)
      = bigSep Finset.univ fun p : Dev nD × Dev nD => if p.2 ≠ p.1 then U p.1 p.2 else iprop(emp) := by
    intro U
    rw [bigSep_univ_prod]
    refine bigSep_congr fun c _ => ?_
    rw [← Finset.filter_ne' Finset.univ c]
    exact bigSep_filter Finset.univ (fun d => d ≠ c) (fun d => U c d)
  rw [e, e, bigSep_univ_equiv (Equiv.prodComm (Dev nD) (Dev nD))]
  refine bigSep_congr fun p _ => ?_
  show (if p.1 ≠ p.2 then T p.2 p.1 else iprop(emp)) = if p.2 ≠ p.1 then T p.2 p.1 else iprop(emp)
  by_cases h : p.1 = p.2
  · rw [if_neg fun hh => hh h, if_neg fun hh => hh h.symm]
  · rw [if_pos h, if_pos fun hh => h hh.symm]

/-- The rights a device uses: its notes, its copies of both steps. -/
def uses (c : Dev nD) : sProp 𝕄 :=
  iprop(bigSep Finset.univ (fun k : Fin 7 => dutyTok ER (barCell (pr c k)) 0 c)
    ∗ bigSep Finset.univ (fun j : Fin 8 => sendToks (F := F) c j) ∗ bigSep Finset.univ (fun k : Fin 7 => spreadToks (F := F) c k))

omit [FloatOps F] in
theorem toks_split (c : Dev nD) : (toks c : sProp 𝕄)
    ⊢ iprop(bigSep (Finset.univ.erase c) (fun d => dutyTok ER (barCell c) 0 d) ∗ bigSep (Finset.univ.erase c) (fun d => dutyTok ER (rsCell c) 0 d)
      ∗ bigSep (Finset.univ.erase c) (fun d => dutyTok ER (agCell c) 0 d)
      ∗ bigSep (Finset.univ.erase c) (fun j => dutyTok ER (rsOut c j) 0 0) ∗ bigSep Finset.univ (fun k : Fin 7 => dutyTok ER (agOut c k) 0 0)) := by
  have h := sort18 c (fun g => bigSep (dutiesOf g.1.1 (cls g.2)) fun d => (dutyTok ER g 0 d : sProp 𝕄))
  refine (show (toks c : sProp 𝕄) ⊢ _ from h).trans ?_
  refine sep_mono_right (sep_mono_right (sep_mono_right (sep_mono (Entails.of_eq ?_) (Entails.of_eq ?_))))
  · rw [bigSep_erase (i := c) (Finset.mem_univ c)]
    have e0 : (bigSep (dutiesOf c (4 + c.val)) fun d => (dutyTok ER (rsOut c c) 0 d : sProp 𝕄)) = iprop(emp) := by
      rw [dutiesOf_rsOut, if_pos rfl]; exact bigSep_empty
    refine (congrArg₂ BI.sep e0 rfl).trans ((equiv_iff.mp emp_sep).trans (bigSep_congr fun j hj => ?_))
    show (bigSep (dutiesOf c (4 + j.val)) fun d => (dutyTok ER (rsOut c j) 0 d : sProp 𝕄)) = _
    rw [dutiesOf_rsOut, if_neg (Finset.ne_of_mem_erase hj), bigSep_singleton]
  · refine bigSep_congr fun k _ => ?_
    show (bigSep (dutiesOf c (13 + k.val)) fun d => (dutyTok ER (agOut c k) 0 d : sProp 𝕄)) = _
    rw [dutiesOf_agOut, bigSep_singleton]

omit [FloatOps F] in
theorem sendToks_all (c : Dev nD) : bigSep Finset.univ (fun j : Fin 8 => sendToks (F := F) c j)
    = iprop(bigSep (Finset.univ.erase c) (fun j : Fin 8 => dutyTok ER (rsCell j) 0 c) ∗ bigSep (Finset.univ.erase c) (fun j : Fin 8 => dutyTok ER (rsOut c j) 0 0)) := by
  rw [bigSep_erase (i := c) (Finset.mem_univ c), show sendToks (F := F) c c = iprop(emp) by unfold sendToks; rw [if_pos rfl]]
  refine ((equiv_iff.mp emp_sep).trans (bigSep_congr fun j hj => ?_)).trans (bigSep_sep _ _ _)
  unfold sendToks; rw [if_neg (Finset.ne_of_mem_erase hj)]; rfl

omit [FloatOps F] in
theorem by_distance (c : Dev nD) (T : Dev nD → sProp 𝕄) : bigSep (Finset.univ.erase c) T = bigSep Finset.univ fun k : Fin 7 => T (pr c k) := by
  rw [univ_erase, bigSep_image_of_injOn fun _ _ _ _ h => pr_inj c h]

omit [FloatOps F] in
theorem toks_around : (bigSep Finset.univ fun c : Dev nD => (toks c : sProp 𝕄)) ⊢ bigSep Finset.univ fun c : Dev nD => uses c := by
  refine (bigSep_mono fun c _ => toks_split c).trans ?_
  unfold uses spreadToks
  simp only [sendToks_all, bigSep_sep']
  rw [swap_pairs (fun c d => dutyTok ER (barCell c) 0 d), swap_pairs (fun c d => dutyTok ER (rsCell c) 0 d), swap_pairs (fun c d => dutyTok ER (agCell c) 0 d)]
  rw [bigSep_congr (s := Finset.univ) (fun c _ => by_distance c fun d => (dutyTok ER (barCell d) 0 c : sProp 𝕄)),
    bigSep_congr (s := Finset.univ) (fun c _ => by_distance c fun d => (dutyTok ER (agCell d) 0 c : sProp 𝕄))]
  exact five _ _ _ _ _

/-! ## The counters' invariants -/

/-- What stays with a device: its place at every counter, the rights it uses, the local copies' counters. -/
def mine (c : Dev nD) : sProp 𝕄 :=
  iprop((bigSep Finset.univ fun k : Fin 18 => atPos ER (kcell (c, k)) 0 ∅ 0) ∗ uses c ∗ bigSep Finset.univ (fun i : Fin 16 => semVal (loc c i) 0))

/-- What a device starts from, at some names. -/
def ghost (c : Dev nD) : sProp 𝕄 := iprop(∃ K, recs I K ∗ mine c)

theorem core_alloc (c : Dev nD) :
    iprop(Pipeline.ownSems0 (Ix := Unit) (Name := ℕ) (U := UU) (Lvl := ℕ) (Val := Elt F) (τ := τ) osem c ∗ unscopedSems0 c ∗ dealt I c)
      ⊢ |={Set.univ}=> iprop((bigSep Finset.univ fun k => iprop(∃ κ : ℕ, cellInv ER (ringRd I) κ (kcell (c, k))))
          ∗ (bigSep Finset.univ fun k => reached ER (kcell (c, k)) 0) ∗ (bigSep Finset.univ fun k => atPos ER (kcell (c, k)) 0 ∅ 0)
          ∗ toks c ∗ bigSep Finset.univ (fun i : Fin 16 => semVal (loc c i) 0)) := by
  have hinv : iprop((bigSep Finset.univ fun k : Fin 18 => semVal (kcell (c, k)) 0) ∗ bigSep Finset.univ fun k : Fin 18 => roundState ER (ringRd I) (kcell (c, k)) 0)
      ⊢ (|={Set.univ}=> bigSep Finset.univ fun k => iprop(∃ κ : ℕ, cellInv ER (ringRd I) κ (kcell (c, k))) : sProp 𝕄) := by
    rw [← bigSep_sep']
    exact (bigSep_mono fun k _ => (Rounds.body_intro ER (ringRd I) (kcell (c, k))).trans inv_alloc).trans (bigSep_fupd _ _)
  unfold dealt
  rw [bigSep_sep']
  iintro ⟨Ho, Hu, Hs, ⟨Ha, Hr⟩, Ht⟩
  ihave Hv := (Entails.of_eq (sems0_eq (F := F) c)) $$ [Ho Hu]
  · isplitl [Ho] <;> iassumption
  icases Hv with ⟨Hv, Hl⟩
  imod hinv $$ [Hv Hs] with Hi
  · isplitl [Hv] <;> iassumption
  imodintro
  isplitl [Hi]; · iexact Hi
  isplitl [Hr]; · iexact Hr
  isplitl [Ha]; · iexact Ha
  isplitl [Ht] <;> iassumption

theorem regroup : (bigSep Finset.univ fun c : Dev nD => iprop((bigSep Finset.univ fun k => iprop(∃ κ : ℕ, cellInv ER (ringRd I) κ (kcell (c, k))))
          ∗ (bigSep Finset.univ fun k => reached ER (kcell (c, k)) 0) ∗ (bigSep Finset.univ fun k => atPos ER (kcell (c, k)) 0 ∅ 0)
          ∗ toks c ∗ bigSep Finset.univ (fun i : Fin 16 => semVal (loc c i) 0)) : sProp 𝕄) ⊢ bigSep Finset.univ (ghost I) := by
  simp only [bigSep_sep']
  rw [← bigSep_univ_prod (fun ck : Dev nD × Fin 18 => iprop(∃ κ : ℕ, cellInv ER (ringRd I) κ (kcell ck))),
    ← bigSep_univ_prod (fun ck : Dev nD × Fin 18 => (reached ER (kcell ck) 0 : sProp 𝕄))]
  iintro ⟨HI, #HR, Ha, Ht, Hl⟩
  ihave HK := (BI.bigSep_exists_pi Finset.univ (fun (ck : Dev nD × Fin 18) (κ : ℕ) => (cellInv ER (ringRd I) κ (kcell ck) : sProp 𝕄))) $$ HI
  icases HK with ⟨%K, #HI⟩
  ihave Ht := (toks_around (F := F)) $$ Ht
  have hd : ∀ c : Dev nD, iprop(recs I K ∗ mine c) ⊢ ghost I c := fun c => by
    unfold ghost; iintro H; iexists K; iexact H
  have hall : iprop(recs I K ∗ bigSep Finset.univ (fun c : Dev nD => mine (F := F) c)) ⊢ bigSep Finset.univ (ghost I) :=
    (sep_mono_left (BI.bigSep_of_persistent Finset.univ (recs I K))).trans (by rw [← bigSep_sep']; exact bigSep_mono fun c _ => hd c)
  iapply hall
  isplitr
  · unfold recs; isplitl; · iexact HI
    iexact HR
  · unfold mine; simp only [bigSep_sep']
    isplitl [Ha]; · iexact Ha
    isplitl [Ht] <;> iassumption

/-- The counters of all the devices, at once. -/
theorem glob : (bigSep Finset.univ fun c => iprop(Pipeline.ownSems0 (Ix := Unit) (Name := ℕ) (U := UU) (Lvl := ℕ) (Val := Elt F) (τ := τ) osem c ∗ unscopedSems0 c ∗ dealt I c) : sProp 𝕄)
    ⊢ |={Set.univ}=> bigSep Finset.univ (ghost I) :=
  ((bigSep_mono fun c _ => core_alloc I c).trans (bigSep_fupd _ _)).trans (BI.fupd_mono (regroup I))

end Cert.KernelIdeal.Ring

end
-- ==== Proof.Owes.lean ====
/-
What a device is owed when all start: a note from each other device, seven landings of each step.
-/
module

public import proofs.«01_k».proof.Proof.Glue

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem dma_eq_iff {a b : Dev nD} (q : DmaSem sig) : Iff ((((a : Thread nD τ), .dma q) : GSem nD τ sig) = ((b : Thread nD τ), .dma q)) (a = b) :=
  ⟨fun h => Fin.ext (congrArg (fun g : GSem nD τ sig => g.1.1.val) h), fun h => h ▸ rfl⟩
theorem q_ne : (dq 12 (by decide) : DmaSem sig) ≠ dq 20 (by decide) := by decide

/-- What `d` owes at one counter of device `c`, all of it in one place. -/
theorem once (d c : Dev nD) (n : ℕ) : ((((((((if c = pr d 6 then n else 0) + (if c = pr d 5 then n else 0)) + (if c = pr d 4 then n else 0))
    + (if c = pr d 3 then n else 0)) + (if c = pr d 2 then n else 0)) + (if c = pr d 1 then n else 0)) + (if c = pr d 0 then n else 0)))
      = if d = c then 0 else n := by
  have h : ∀ d c : Dev nD, d ≠ c → ∃ k, c = pr d k := by decide
  by_cases hd : d = c
  · subst hd
    rw [if_pos rfl]
    simp only [if_neg (pr_ne d _).symm]
  · obtain ⟨k, rfl⟩ := h d c hd
    rw [if_neg hd]
    simp only [(pr_inj d).eq_iff]
    fin_cases k <;> simp

theorem once_at (d c : Fin 8) (n : ℕ) : (((((((((if c = 7 then (if (7 : Fin 8) = d then 0 else n) else 0) + (if c = 6 then (if (6 : Fin 8) = d then 0 else n) else 0))
    + (if c = 5 then (if (5 : Fin 8) = d then 0 else n) else 0)) + (if c = 4 then (if (4 : Fin 8) = d then 0 else n) else 0))
    + (if c = 3 then (if (3 : Fin 8) = d then 0 else n) else 0)) + (if c = 2 then (if (2 : Fin 8) = d then 0 else n) else 0))
    + (if c = 1 then (if (1 : Fin 8) = d then 0 else n) else 0)) + (if c = 0 then (if (0 : Fin 8) = d then 0 else n) else 0)))
      = if d = c then 0 else n := by
  rw [show (if d = c then 0 else n) = if c = d then 0 else n from if_congr eq_comm rfl rfl]
  fin_cases c <;> simp

/-- Seven times one amount. -/
theorem seven (c : Dev nD) (n : ℕ) : ∑ d : Dev nD, (if d = c then 0 else n) = 7 * n := by
  rw [Finset.sum_ite, Finset.sum_const_zero, zero_add, Finset.sum_const, Finset.filter_ne' Finset.univ c, card_others, smul_eq_mul]

theorem bar_bar (d c : Dev nD) (k : Fin 7) : barDue d k (barCell c) () = if c = pr d k then 1 else 0 := by
  unfold barDue; rw [tallyAt_apply]; exact if_congr ((and_iff_left rfl).trans bar_eq_iff) rfl rfl
theorem bar_dma (d c : Dev nD) (k : Fin 7) (q : DmaSem sig) : barDue d k ((c : Thread nD τ), .dma q) () = 0 := by
  unfold barDue; rw [tallyAt_apply]; exact if_neg fun h => by cases h.1
theorem rs_bar (d c : Dev nD) (j : Fin 8) : rsDue d j (barCell c) () = 0 := by
  unfold rsDue; rw [tallyAt_apply]; exact if_neg fun h => by cases h.1
theorem rs_rs (d c : Dev nD) (j : Fin 8) : rsDue d j (rsCell c) () = if c = j then (if j = d then 0 else NR) else 0 := by
  unfold rsDue; rw [tallyAt_apply]; exact if_congr ((and_iff_left rfl).trans (dma_eq_iff _)) rfl rfl
theorem rs_ag (d c : Dev nD) (j : Fin 8) : rsDue d j (agCell c) () = 0 := by
  unfold rsDue; rw [tallyAt_apply]; exact if_neg fun h => q_ne (SemLoc.dma.inj (congrArg Prod.snd h.1)).symm
theorem ag_bar (d c : Dev nD) (k : Fin 7) : agDue d k (barCell c) () = 0 := by
  unfold agDue; rw [tallyAt_apply]; exact if_neg fun h => by cases h.1
theorem ag_rs (d c : Dev nD) (k : Fin 7) : agDue d k (rsCell c) () = 0 := by
  unfold agDue; rw [tallyAt_apply]; exact if_neg fun h => q_ne (SemLoc.dma.inj (congrArg Prod.snd h.1))
theorem ag_ag (d c : Dev nD) (k : Fin 7) : agDue d k (agCell c) () = if c = pr d k then NA else 0 := by
  unfold agDue; rw [tallyAt_apply]; exact if_congr ((and_iff_left rfl).trans (dma_eq_iff _)) rfl rfl

/-- All that a device owes at one counter. -/
theorem owed_at (d : Dev nD) (g : GSem nD τ sig) : barOwed d 7 g ()
    = ((((((((((((((((((((((0 + agDue d 6 g ()) + agDue d 5 g ()) + agDue d 4 g ()) + agDue d 3 g ()) + agDue d 2 g ()) + agDue d 1 g ()) + agDue d 0 g ())
      + rsDue d 7 g ()) + rsDue d 6 g ()) + rsDue d 5 g ()) + rsDue d 4 g ()) + rsDue d 3 g ()) + rsDue d 2 g ()) + rsDue d 1 g ()) + rsDue d 0 g ())
      + barDue d 6 g ()) + barDue d 5 g ()) + barDue d 4 g ()) + barDue d 3 g ()) + barDue d 2 g ()) + barDue d 1 g ()) + barDue d 0 g ()) := rfl

theorem owed_bar (d c : Dev nD) : barOwed d 7 (barCell c) () = if d = c then 0 else 1 := by
  rw [owed_at, ← once]; simp only [ag_bar, rs_bar, bar_bar, zero_add]
theorem owed_rs (d c : Dev nD) : barOwed d 7 (rsCell c) () = if d = c then 0 else NR := by
  rw [owed_at]; simp only [ag_rs, rs_rs, bar_dma, zero_add, add_zero]; exact once_at d c NR
theorem owed_ag (d c : Dev nD) : barOwed d 7 (agCell c) () = if d = c then 0 else NA := by
  rw [owed_at, ← once]; simp only [ag_ag, rs_ag, bar_dma, zero_add, add_zero]

/-- What each device owes at the start. -/
abbrev O₀ (c : Dev nD) : CellTallies nD τ sig Unit := barOwed c 7

theorem launch_at (g : GSem nD τ sig) (c : Dev nD) (n : ℕ) (h : ∀ d, O₀ d g () = if d = c then 0 else n) :
    tallyOn g (launchCredit (Pipeline.owing O₀) 0 g) = (tallyAt g () (7 * n) : CellTallies nD τ sig Unit) := by
  unfold tallyAt; refine congrArg _ (Finsupp.ext fun u => ?_); cases u
  rw [Pipeline.launchCredit_owing, Finsupp.single_eq_same, Finset.sum_congr rfl fun d _ => h d, seven]

omit [FloatOps F] in
theorem creds (c : Dev nD) :
    (Pipeline.launchCred O₀ c : sProp 𝕄) ⊢ iprop(cred (tallyAt (barCell c) () 7) ∗ cred (tallyAt (rsCell c) () (7 * NR)) ∗ cred (tallyAt (agCell c) () (7 * NA))) := by
  unfold Pipeline.launchCred
  rw [bigSep_univ_at _ (SemLoc.reg barS), launch_at (barCell c) c 1 fun d => owed_bar d c]
  refine sep_mono_right ?_
  rw [bigSep_erase (i := (.dma (dq 12 (by decide)) : SemLoc sig)) (Finset.mem_erase.mpr ⟨fun h => (by cases h), Finset.mem_univ _⟩)]
  rw [← launch_at (rsCell c) c NR fun d => owed_rs d c, ← launch_at (agCell c) c NA fun d => owed_ag d c]
  refine sep_mono_right ?_
  exact bigSep_elim (Finset.mem_erase.mpr ⟨fun h => q_ne (SemLoc.dma.inj h).symm, Finset.mem_erase.mpr ⟨fun h => (by cases h), Finset.mem_univ _⟩⟩)

end Cert.KernelIdeal.Ring

end
-- ==== Proof.Guards.lean ====
/-
The eight copies of the second step: which devices make them and where they land.
-/
module

public import proofs.«01_k».proof.Proof.Glue

@[expose] public section

noncomputable section

namespace Cert.KernelIdeal.Ring

open Cert.KernelIdeal Cert.KernelIdeal.Gen

open Idealize.ShloMosaic

theorem mod_slot (c : Dev nD) (j : Fin 8) : j ≠ c → (j.val + 7 - c.val) % 8 = (slot c j).val := by revert c j; decide
theorem goes0 (c : Dev nD) : k0_cond1 c = 1#1 ↔ (0 : Fin 8) ≠ c := by revert c; decide
theorem lands0 (c : Dev nD) (h : k0_cond1 c = 1#1) : k0_off1 c = ![(slot c 0).val, 0, 0] := by
  rw [k0_off1_eq, ← mod_slot c 0 ((goes0 c).mp h)]
  revert c; decide
theorem goes1 (c : Dev nD) : k0_cond2 c = 1#1 ↔ (1 : Fin 8) ≠ c := by revert c; decide
theorem lands1 (c : Dev nD) (h : k0_cond2 c = 1#1) : k0_off2 c = ![(slot c 1).val, 0, 0] := by
  rw [k0_off2_eq, ← mod_slot c 1 ((goes1 c).mp h)]
  revert c; decide
theorem goes2 (c : Dev nD) : k0_cond3 c = 1#1 ↔ (2 : Fin 8) ≠ c := by revert c; decide
theorem lands2 (c : Dev nD) (h : k0_cond3 c = 1#1) : k0_off3 c = ![(slot c 2).val, 0, 0] := by
  rw [k0_off3_eq, ← mod_slot c 2 ((goes2 c).mp h)]
  revert c; decide
theorem goes3 (c : Dev nD) : k0_cond4 c = 1#1 ↔ (3 : Fin 8) ≠ c := by revert c; decide
theorem lands3 (c : Dev nD) (h : k0_cond4 c = 1#1) : k0_off4 c = ![(slot c 3).val, 0, 0] := by
  rw [k0_off4_eq, ← mod_slot c 3 ((goes3 c).mp h)]
  revert c; decide
theorem goes4 (c : Dev nD) : k0_cond5 c = 1#1 ↔ (4 : Fin 8) ≠ c := by revert c; decide
theorem lands4 (c : Dev nD) (h : k0_cond5 c = 1#1) : k0_off5 c = ![(slot c 4).val, 0, 0] := by
  rw [k0_off5_eq, ← mod_slot c 4 ((goes4 c).mp h)]
  revert c; decide
theorem goes5 (c : Dev nD) : k0_cond6 c = 1#1 ↔ (5 : Fin 8) ≠ c := by revert c; decide
theorem lands5 (c : Dev nD) (h : k0_cond6 c = 1#1) : k0_off6 c = ![(slot c 5).val, 0, 0] := by
  rw [k0_off6_eq, ← mod_slot c 5 ((goes5 c).mp h)]
  revert c; decide
theorem goes6 (c : Dev nD) : k0_cond7 c = 1#1 ↔ (6 : Fin 8) ≠ c := by revert c; decide
theorem lands6 (c : Dev nD) (h : k0_cond7 c = 1#1) : k0_off7 c = ![(slot c 6).val, 0, 0] := by
  rw [k0_off7_eq, ← mod_slot c 6 ((goes6 c).mp h)]
  revert c; decide
theorem goes7 (c : Dev nD) : k0_cond8 c = 1#1 ↔ (7 : Fin 8) ≠ c := by revert c; decide
theorem lands7 (c : Dev nD) (h : k0_cond8 c = 1#1) : k0_off8 c = ![(slot c 7).val, 0, 0] := by
  rw [k0_off8_eq, ← mod_slot c 7 ((goes7 c).mp h)]
  revert c; decide

end Cert.KernelIdeal.Ring

end
-- ==== Proof.Meets.lean ====
/-
The waits of the second and the third step, and the third step's copies, as the run meets them.
-/
module

public import proofs.«01_k».proof.Proof.Guards

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem landed_start (c : Dev nD) (sm : SemLoc sig) (N : ℕ) (P : Dev nD → sProp (MT nD τ sig Unit (Elt F) ℕ UU ℕ)) :
    (atPos ER ((c : Thread nD τ), sm) 0 ∅ 0 : sProp 𝕄) ⊢ landed (F := F) c sm N P 0 := by
  unfold landed
  iintro H
  iexists ∅
  isplitr; · ipureintro; exact Finset.empty_subset _
  rw [Nat.zero_mul, bigSep_empty]
  isplitl [H]; · iexact H
  iempintro

section Waits
variable (I : Sp F) (K : Dev nD × Fin 18 → ℕ) (c : Dev nD)
variable {α : Type} {Q : α → sProp (MT nD τ sig Unit (Elt F) ℕ UU ℕ)}
variable {kk : PUnit → Prog (TpuEff nD τ sig (Elt F) Λ₀ .tc) α}

/-- What has landed of the second step, and of the third. -/
abbrev rsIn (n : ℕ) : sProp 𝕄 := landed (F := F) c (.dma (dq 12 (by decide))) NR (rsPay I c) n
abbrev agIn (n : ℕ) : sProp 𝕄 := landed (F := F) c (.dma (dq 20 (by decide))) NA (agPay I c) n

theorem rs_start : (atPos ER (rsCell c) 0 ∅ 0 : sProp 𝕄) ⊢ rsIn I c 0 := landed_start c _ NR (rsPay I c)
theorem ag_start : (atPos ER (agCell c) 0 ∅ 0 : sProp 𝕄) ⊢ agIn I c 0 := landed_start c _ NA (agPay I c)

theorem credit_recv (k : Fin 7) : (recvSlot k).view.dmaCredit = NR := rfl

theorem step_rs (k : Fin 7) (n m : ℕ) {src : Memref sig .tc .vmem S32x1152 .bf16} {h1 : src.view.WordExact} {h2 : (recvSlot k).view.WordExact} :
    iprop(recs I K ∗ levAts L lv ∗ (∃ W, owes (c : Thread nD τ) (rsOwed c 0) W) ∗ cred (tallyAt (rsCell c) () ((m + 1) * NR)) ∗ rsIn I c n)
      ⊢ iprop(((∃ W, owes (c : Thread nD τ) (rsOwed c 0) W) ∗ cred (tallyAt (rsCell c) () (m * NR)) ∗ rsIn I c (n + 1)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dq 12 (by decide)) src (recvSlot k) h1 h2) kk) Q) :=
  step_land I K c (.dma (dq 12 (by decide))) NR (rsPay I c) 9 (kcell_rs c) (payload_rs I c) (duties_rs I c) (above_ag c 7) (by decide)
    (fun Q => (wpE_waitDma2_eq 𝒱₀ (c : Thread nD τ) none Set.univ Q).trans (by rw [credit_recv k])) n m

theorem step_rs_last (k : Fin 7) {src : Memref sig .tc .vmem S32x1152 .bf16} {h1 : src.view.WordExact} {h2 : (recvSlot k).view.WordExact} :
    iprop(recs I K ∗ levAts L lv ∗ (∃ W, owes (c : Thread nD τ) (rsOwed c 0) W) ∗ cred (tallyAt (rsCell c) () (1 * NR)) ∗ rsIn I c 6)
      ⊢ iprop(((∃ W, owes (c : Thread nD τ) (rsOwed c 0) W) ∗ atPos ER (rsCell c) 1 ∅ 0 ∗ bigSep (Finset.univ.erase c) (rsPay I c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dq 12 (by decide)) src (recvSlot k) h1 h2) kk) Q) :=
  step_land_last I K c (.dma (dq 12 (by decide))) NR (rsPay I c) 9 (kcell_rs c) (payload_rs I c) (duties_rs I c) (expect_rs I c) (above_ag c 7) (by decide)
    (fun Q => (wpE_waitDma2_eq 𝒱₀ (c : Thread nD τ) none Set.univ Q).trans (by rw [credit_recv k]))

section Ag
variable {off : Fin 2 → ℕ} {hinb : ∀ a, off a + S32x1024.size a ≤ S256x1024.size a}

theorem step_ag (n m : ℕ) {src : Memref sig .tc .vmem S32x1024 .bf16} {h1 : src.view.WordExact}
    {h2 : (agM.slice (Rect.unit (s := S256x1024) off S32x1024.size hinb) (fun _ => rfl)).view.WordExact} :
    iprop(recs I K ∗ levAts L lv ∗ (∃ W, owes (c : Thread nD τ) 0 W) ∗ cred (tallyAt (agCell c) () ((m + 1) * NA)) ∗ agIn I c n)
      ⊢ iprop(((∃ W, owes (c : Thread nD τ) 0 W) ∗ cred (tallyAt (agCell c) () (m * NA)) ∗ agIn I c (n + 1)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dq 20 (by decide)) src (agM.slice (Rect.unit (s := S256x1024) off S32x1024.size hinb) (fun _ => rfl)) h1 h2) kk) Q) :=
  step_land I K c (.dma (dq 20 (by decide))) NA (agPay I c) 17 (kcell_ag c) (payload_ag I c) (duties_ag I c) (above_zero 3) (by decide)
    (fun Q => (wpE_waitDma2_eq (defs := defs₀ (F := F)) (src := src) (dst := agM.slice (Rect.unit (s := S256x1024) off S32x1024.size hinb) (fun _ => rfl)) (hsrc := h1) (hdst := h2) 𝒱₀ (c : Thread nD τ) none Set.univ Q).trans rfl) n m

theorem step_ag_last {src : Memref sig .tc .vmem S32x1024 .bf16} {h1 : src.view.WordExact}
    {h2 : (agM.slice (Rect.unit (s := S256x1024) off S32x1024.size hinb) (fun _ => rfl)).view.WordExact} :
    iprop(recs I K ∗ levAts L lv ∗ (∃ W, owes (c : Thread nD τ) 0 W) ∗ cred (tallyAt (agCell c) () (1 * NA)) ∗ agIn I c 6)
      ⊢ iprop(((∃ W, owes (c : Thread nD τ) 0 W) ∗ atPos ER (agCell c) 1 ∅ 0 ∗ bigSep (Finset.univ.erase c) (agPay I c)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dq 20 (by decide)) src (agM.slice (Rect.unit (s := S256x1024) off S32x1024.size hinb) (fun _ => rfl)) h1 h2) kk) Q) :=
  step_land_last I K c (.dma (dq 20 (by decide))) NA (agPay I c) 17 (kcell_ag c) (payload_ag I c) (duties_ag I c) (expect_ag I c) (above_zero 3) (by decide)
    (fun Q => (wpE_waitDma2_eq (defs := defs₀ (F := F)) (src := src) (dst := agM.slice (Rect.unit (s := S256x1024) off S32x1024.size hinb) (fun _ => rfl)) (hsrc := h1) (hdst := h2) 𝒱₀ (c : Thread nD τ) none Set.univ Q).trans rfl)
end Ag

theorem step_out (j : Fin 8) {p : Prop} [Decidable p] (hp : p ↔ j ≠ c) {src : Memref sig .tc .vmem S32x1152 .bf16} {h1 : p → src.view.WordExact}
    {h2 : p → (stageSlot j).view.WordExact} (R : PUnit → sProp (MT nD τ sig Unit (Elt F) ℕ UU ℕ)) :
    iprop(recs I K ∗ (∃ W, owes (c : Thread nD τ) 0 W) ∗ stay (F := F) c j ∗ atPos ER (rsOut c j) 0 ∅ 0)
      ⊢ iprop(((∃ W, owes (c : Thread nD τ) 0 W) ∗ stageAny (F := F) c j ∗ semVal (rsOut c j) 0 -∗ R ⟨⟩)
          -∗ wp frame (wpE (defs₀ (F := F)) 𝒱₀ (c : Thread nD τ) none) Set.univ
              (if h : p then (.op (.waitDma2 (dq (4 + j.val) (by omega)) src (stageSlot j) (h1 h) (h2 h)) (fun _ => .ret ⟨⟩)
                : Prog (TpuEff nD τ sig (Elt F) Λ₀ .tc) PUnit) else .ret ⟨⟩) R) :=
  step_left I K c j hp (fun h Q => (wpE_waitDma2_eq (defs := defs₀ (F := F)) (src := src) (dst := stageSlot j) (hsrc := h1 h) (hdst := h2 h) 𝒱₀ (c : Thread nD τ) none Set.univ Q).trans rfl) R

theorem step_agout (k : Fin 7) {src : Memref sig .tc .vmem S32x1024 .bf16} {h1 : src.view.WordExact} {h2 : agsM.view.WordExact} :
    iprop(recs I K ∗ (∃ W, owes (c : Thread nD τ) 0 W) ∗ cred (tallyAt (agOut c k) () NA) ∗ atPos ER (agOut c k) 0 ∅ 0)
      ⊢ iprop(((∃ W, owes (c : Thread nD τ) 0 W) ∗ ownPts c k (I.own c) ∗ semVal (agOut c k) 0
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dq (13 + k.val) (by omega)) src agsM h1 h2) kk) Q) :=
  step_gone I K c k (fun Q => (wpE_waitDma2_eq (defs := defs₀ (F := F)) (src := src) (dst := agsM) (hsrc := h1) (hdst := h2) 𝒱₀ (c : Thread nD τ) none Set.univ Q).trans rfl)

/-- `step_spread` with what the copy leaves made plain. -/
theorem step_share (hall : ∀ d, (agRows d).view.read (Elt F) I.all = I.own d) (k : Fin 7) (n : Dev nD) (hn : n = pr c k) {off : Fin 2 → ℕ}
    (hinb : ∀ a, off a + S32x1024.size a ≤ S256x1024.size a) (hoff : off = ![32 * c.val, 0]) {w1 : agsM.view.WordExact}
    {w2 : (agM.slice (Rect.unit (s := S256x1024) off S32x1024.size hinb) (fun _ => rfl)).view.WordExact}
    {w0 : (agM.slice (Rect.unit (s := S256x1024) off S32x1024.size hinb) (fun _ => rfl)).view.ref.isScScratch = false}
    {w3 : DmaTarget.Typed .vmem (.dma (dq 20 (by decide))) (.remote (Dev.tc n) (agM.slice (Rect.unit (s := S256x1024) off S32x1024.size hinb) (fun _ => rfl)) (.dma (dq (13 + k.val) (by omega))) w0)}
    (O : CellTallies nD τ sig Unit) :
    iprop(recs I K ∗ (∃ W, owes (c : Thread nD τ) (O + agDue c k) W) ∗ ownPts c k (I.own c) ∗ agAny (F := F) (pr c k) c ∗ spreadToks (F := F) c k)
      ⊢ iprop(((∃ W, owes (c : Thread nD τ) O W) ∗ cred (tallyAt (agOut c k) () NA)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma agsM (.remote (Dev.tc n)
                  (agM.slice (Rect.unit (s := S256x1024) off S32x1024.size hinb) (fun _ => rfl))
                  (.dma (dq (13 + k.val) (by omega))) w0) (.dma (dq 20 (by decide))) w1 w2 w3) kk) Q) :=
  step_spread I K c k n hn hinb hoff (fun _ _ => trivial) (fun g => rows_written I hall (pr c k) c g) O

end Waits

end Cert.KernelIdeal.Ring

end
-- ==== Proof.Vals.lean ====
/-
The values the body computes, from a device's five inputs: the unnormalised weighted sums and the sums of weights of every
row group and head (`partG`), the chunks the devices exchange, and the finished chunks.
-/
module

public import proofs.«01_k».proof.Proof.Pre
public import Idealize.ShloMosaic.Lib.ValueIdxCore

@[expose] public section

noncomputable section

namespace Cert.KernelIdeal.Ring

open Cert.KernelIdeal Cert.KernelIdeal.Gen

open Idealize.ShloMosaic
open Idealize.ShloMosaic.TcCoe Idealize.ShloMosaic.ValueIdx

variable {F : FTy → Type} [FloatOps F]

/-! ## The local copies and the loads from them -/

section Heads
variable (M : Memref sig .tc .hbm S1x4096x8x128 .f32) (v : View sig .tc .vmem S4096x1024 .f32) (f : M.view.ty.Contents (Elt F))

theorem head_inb (h : Fin 8) : ∀ a, (![0, 0, h.val, 0] : Fin 4 → Nat) a + S1x4096x1x128.size a ≤ S1x4096x8x128.size a := by revert h; decide
theorem cols_inb (h : Fin 8) : ∀ a, (![0, 128 * h.val] : Fin 2 → Nat) a + S4096x128.size a ≤ S4096x1024.size a := by revert h; decide
theorem blk_inb (a : Fin 4) (b : Fin 2) (g : Fin 16) : ∀ i, (![64 * a.val + 256 * g.val, 512 * b.val] : Fin 2 → Nat) i + S64x512.size i ≤ S4096x1024.size i := by
  revert a b g; decide

/-- One head of the argument, as its copy reads it. -/
def head (h : Fin 8) : S4096x128.Idx → Elt F .f32 :=
  ReadAs.same.apply (View.read (Elt F)
    ((M.slice (Rect.unit (s := S1x4096x8x128) ![0, 0, h.val, 0] S1x4096x1x128.size (head_inb h)) (fun _ => rfl)).squeeze S4096x128 squeezes_S1x4096x1x128_S4096x128).view f)

def headPiece (h : Fin 8) : View.Piece (Elt F) S4096x1024 .f32 :=
  ⟨Rect.unit ![0, 128 * h.val] S4096x128.size (cols_inb h), head M f h⟩

/-- The eight copies, latest first. -/
def headPieces : List (View.Piece (Elt F) S4096x1024 .f32) :=
  [headPiece M f 7, headPiece M f 6, headPiece M f 5, headPiece M f 4, headPiece M f 3, headPiece M f 2, headPiece M f 1, headPiece M f 0]

/-- The rows `64 a + 256 g …` of four heads, loaded. -/
def blk (a : Fin 4) (b : Fin 2) (g : Fin 16) : S64x512.Idx → Elt F .f32 :=
  v.readCov (headPieces M f) (Rect.unit (s := S4096x1024) ![64 * a.val + 256 * g.val, 512 * b.val] S64x512.size (blk_inb a b g)).toLoadRect

/-- The sixteen row blocks a row group attends, one below the other. -/
def cat (a : Fin 4) (b : Fin 2) : FVec F S1024x512 .f32 :=
  concatenate S1024x512 0 [⟨S64x512, blk M v f a b 0⟩, ⟨S64x512, blk M v f a b 1⟩, ⟨S64x512, blk M v f a b 2⟩, ⟨S64x512, blk M v f a b 3⟩,
    ⟨S64x512, blk M v f a b 4⟩, ⟨S64x512, blk M v f a b 5⟩, ⟨S64x512, blk M v f a b 6⟩, ⟨S64x512, blk M v f a b 7⟩,
    ⟨S64x512, blk M v f a b 8⟩, ⟨S64x512, blk M v f a b 9⟩, ⟨S64x512, blk M v f a b 10⟩, ⟨S64x512, blk M v f a b 11⟩,
    ⟨S64x512, blk M v f a b 12⟩, ⟨S64x512, blk M v f a b 13⟩, ⟨S64x512, blk M v f a b 14⟩, ⟨S64x512, blk M v f a b 15⟩]
    concatenates_S64x512_S64x512_S64x512_S64x512_S64x512_S64x512_S64x512_S64x512_S64x512_S64x512_S64x512_S64x512_S64x512_S64x512_S64x512_S64x512_S1024x512_d0
end Heads

/-! ## One row group and one head -/

section Att
variable (q : FVec F S256x1024 .f32) (k v : Fin 4 → Fin 2 → FVec F S1024x512 .f32)

theorem q_slices (a : Fin 4) (b : Fin 2) (e : Fin 4) : S256x1024.Slices ![64 * a.val, 128 * (4 * b.val + e.val)] S64x128 := by revert a b e; decide
theorem kv_slices (e : Fin 4) : S1024x512.Slices ![0, 128 * e.val] S1024x128 := by revert e; decide

/-- The weights of row group `a`, head `4 b + e`. -/
def wts (a : Fin 4) (b : Fin 2) (e : Fin 4) : FVec F S64x1024 .f32 :=
  exp (matmul dot_S64x128_S1024x128_S64x1024_1_1_0_0_n_n none (extractStridedSlice S64x128 ![64 * a.val, 128 * (4 * b.val + e.val)] q (q_slices a b e))
    (extractStridedSlice S1024x128 ![0, 128 * e.val] (k a b) (kv_slices e)) (constant S64x1024 .f32 0x00000000#32))
/-- Their sums. -/
def wsum (a : Fin 4) (b : Fin 2) (e : Fin 4) : FVec F S64x1 .f32 :=
  shapeCast S64x1 (multiReduction .add [1] S64 (wts q k a b e) 0x00000000#32 reduces_S64x1024_S64 (.inl rfl) rfl) shapeCasts_S64_S64x1
/-- The weighted sums of the values. -/
def wval (a : Fin 4) (b : Fin 2) (e : Fin 4) : FVec F S64x128 .f32 :=
  shapeCast S64x128 (matmul dot_S64x1024_S1024x128_S64x128_1_0_0_1_n_n none (wts q k a b e)
    (extractStridedSlice S1024x128 ![0, 128 * e.val] (v a b) (kv_slices e)) (constant S64x128 .f32 0x00000000#32)) shapeCasts_S64x128_S64x128
/-- The sums of four heads side by side. -/
def wsums (a : Fin 4) (b : Fin 2) : FVec F S64x4 .f32 :=
  shapeCast S64x4 (concatenate S64x4 1 [⟨S64x1, wsum q k a b 0⟩, ⟨S64x1, wsum q k a b 1⟩, ⟨S64x1, wsum q k a b 2⟩, ⟨S64x1, wsum q k a b 3⟩]
    concatenates_S64x1_S64x1_S64x1_S64x1_S64x4_d1) shapeCasts_S64x4_S64x4

theorem val_inb (a : Fin 4) (b : Fin 2) (e : Fin 4) : ∀ i, (![64 * a.val, 128 * (4 * b.val + e.val)] : Fin 2 → Nat) i + S64x128.size i ≤ S256x1152.size i := by
  revert a b e; decide
theorem sum_inb (a : Fin 4) (b : Fin 2) : ∀ i, (![64 * a.val, 1024 + 4 * b.val] : Fin 2 → Nat) i + S64x4.size i ≤ S256x1152.size i := by
  revert a b; decide

def valPiece (a : Fin 4) (b : Fin 2) (e : Fin 4) : View.Piece (Elt F) S256x1152 .f32 :=
  ⟨Rect.unit ![64 * a.val, 128 * (4 * b.val + e.val)] S64x128.size (val_inb a b e), wval q k v a b e⟩
def sumPiece (a : Fin 4) (b : Fin 2) : View.Piece (Elt F) S256x1152 .f32 :=
  ⟨Rect.unit ![64 * a.val, 1024 + 4 * b.val] S64x4.size (sum_inb a b), wsums q k a b⟩

/-- The five stores of a row group and four heads, latest first, on top of earlier ones. -/
def group (a : Fin 4) (b : Fin 2) (L : List (View.Piece (Elt F) S256x1152 .f32)) : List (View.Piece (Elt F) S256x1152 .f32) :=
  sumPiece q k a b :: valPiece q k v a b 3 :: valPiece q k v a b 2 :: valPiece q k v a b 1 :: valPiece q k v a b 0 :: L

/-- The stores of the first four heads, then those of the other four for row groups `0`, …, `n - 1`. -/
def firsts : List (View.Piece (Elt F) S256x1152 .f32) :=
  group q k v 3 0 (group q k v 2 0 (group q k v 1 0 (group q k v 0 0 [])))
def upto1 : List (View.Piece (Elt F) S256x1152 .f32) := group q k v 0 1 (firsts q k v)
def upto2 : List (View.Piece (Elt F) S256x1152 .f32) := group q k v 1 1 (upto1 q k v)
def upto3 : List (View.Piece (Elt F) S256x1152 .f32) := group q k v 2 1 (upto2 q k v)
def upto4 : List (View.Piece (Elt F) S256x1152 .f32) := group q k v 3 1 (upto3 q k v)

theorem row_lt (i : S256x1152.Idx) : (i 0).val / 64 < 4 := by have h : (i 0).val < 256 := (i 0).isLt; omega

set_option backward.proofsInPublic true in
/-- The finished partial sums: columns 0 … 1023 the weighted values (head by head), columns 1024 … 1031 the sums of weights. -/
def partG (i : S256x1152.Idx) : Elt F .f32 :=
  if h : (i 1).val < 1024 then
    wval q k v ⟨(i 0).val / 64, row_lt i⟩ ⟨(i 1).val / 512, by omega⟩ ⟨(i 1).val / 128 % 4, by omega⟩
      (ix2 ⟨(i 0).val % 64, Nat.mod_lt _ (by decide)⟩ ⟨(i 1).val % 128, Nat.mod_lt _ (by decide)⟩)
  else if h' : (i 1).val < 1032 then
    wsums q k ⟨(i 0).val / 64, row_lt i⟩ ⟨((i 1).val - 1024) / 4, by omega⟩
      (ix2 ⟨(i 0).val % 64, Nat.mod_lt _ (by decide)⟩ ⟨((i 1).val - 1024) % 4, Nat.mod_lt _ (by decide)⟩)
  else FloatOps.ofBits .f32 0x00000000#32

def Fits (L : List (View.Piece (Elt F) S256x1152 .f32)) : Prop := ∀ p ∈ L, ∀ x : p.1.shape.Idx, p.2 x = partG q k v (p.1.emb x)

theorem fits_val (a : Fin 4) (b : Fin 2) (e : Fin 4) (x : (valPiece q k v a b e).1.shape.Idx) :
    (valPiece q k v a b e).2 x = partG q k v ((valPiece q k v a b e).1.emb x) := by
  have hx0 : (x 0).val < 64 := (x 0).isLt
  have hx1 : (x 1).val < 128 := (x 1).isLt
  have e0 : ((valPiece q k v a b e).1.emb x 0).val = 64 * a.val + 1 * (x 0).val := rfl
  have e1 : ((valPiece q k v a b e).1.emb x 1).val = 128 * (4 * b.val + e.val) + 1 * (x 1).val := rfl
  have ha := a.isLt
  have hb := b.isLt
  have he := e.isLt
  unfold partG
  rw [dif_pos (by omega)]
  show wval q k v a b e x = _
  have i1 : (⟨((valPiece q k v a b e).1.emb x 0).val / 64, row_lt _⟩ : Fin 4) = a := Fin.ext (by show _ / 64 = a.val; omega)
  congr 1
  · exact i1.symm
  · exact Fin.ext (by show b.val = _ / 512; omega)
  · exact Fin.ext (by show e.val = _ / 128 % 4; omega)
  · funext i
    refine Fin.cases ?_ (fun i => ?_) i
    · exact Fin.ext (by show (x 0).val = _ % 64; omega)
    · obtain rfl : i = 0 := Subsingleton.elim _ _
      exact Fin.ext (by show (x 1).val = _ % 128; omega)

theorem fits_sum (a : Fin 4) (b : Fin 2) (x : (sumPiece q k a b).1.shape.Idx) :
    (sumPiece q k a b).2 x = partG q k v ((sumPiece q k a b).1.emb x) := by
  have hx0 : (x 0).val < 64 := (x 0).isLt
  have hx1 : (x 1).val < 4 := (x 1).isLt
  have e0 : ((sumPiece q k a b).1.emb x 0).val = 64 * a.val + 1 * (x 0).val := rfl
  have e1 : ((sumPiece q k a b).1.emb x 1).val = 1024 + 4 * b.val + 1 * (x 1).val := rfl
  have ha := a.isLt
  have hb := b.isLt
  unfold partG
  rw [dif_neg (by omega), dif_pos (by omega)]
  show wsums q k a b x = _
  congr 1
  · exact Fin.ext (by show a.val = _ / 64; omega)
  · exact Fin.ext (by show b.val = (_ - 1024) / 4; omega)
  · funext i
    refine Fin.cases ?_ (fun i => ?_) i
    · exact Fin.ext (by show (x 0).val = _ % 64; omega)
    · obtain rfl : i = 0 := Subsingleton.elim _ _
      exact Fin.ext (by show (x 1).val = (_ - 1024) % 4; omega)

theorem fits_group (a : Fin 4) (b : Fin 2) {L : List (View.Piece (Elt F) S256x1152 .f32)} (h : Fits q k v L) : Fits q k v (group q k v a b L) := by
  intro p hp
  unfold group at hp
  simp only [List.mem_cons] at hp
  rcases hp with rfl | rfl | rfl | rfl | rfl | hp
  · exact fits_sum q k v a b
  · exact fits_val q k v a b 3
  · exact fits_val q k v a b 2
  · exact fits_val q k v a b 1
  · exact fits_val q k v a b 0
  · exact h p hp

/-- A group's stores cover its rows of its columns. -/
theorem group_hits (a : Fin 4) (b : Fin 2) (L : List (View.Piece (Elt F) S256x1152 .f32)) (y : S256x1152.Idx) (h0 : (y 0).val / 64 = a.val)
    (h1 : ((y 1).val < 1024 ∧ (y 1).val / 512 = b.val) ∨ (1024 ≤ (y 1).val ∧ ((y 1).val - 1024) / 4 = b.val)) :
    ∃ p ∈ group q k v a b L, y ∈ p.1.set := by
  have hv : ∀ e : Fin 4, (y 1).val < 1024 → (y 1).val / 512 = b.val → (y 1).val / 128 % 4 = e.val → y ∈ (valPiece q k v a b e).1.set := by
    intro e g1 g2 g3
    refine (Rect.mem_set_unit (inb := val_inb a b e)).mpr fun i => ?_
    refine Fin.cases ?_ (fun i => ?_) i
    · show 64 * a.val ≤ (y 0).val ∧ (y 0).val < 64 * a.val + 64; omega
    · obtain rfl : i = 0 := Subsingleton.elim _ _
      show 128 * (4 * b.val + e.val) ≤ (y 1).val ∧ (y 1).val < 128 * (4 * b.val + e.val) + 128; omega
  rcases h1 with ⟨g1, g2⟩ | ⟨g1, g2⟩
  · have he : (y 1).val / 128 % 4 < 4 := Nat.mod_lt _ (by decide)
    obtain ⟨e, hee⟩ : ∃ e : Fin 4, (y 1).val / 128 % 4 = e.val := ⟨⟨_, he⟩, rfl⟩
    refine ⟨valPiece q k v a b e, ?_, hv e g1 g2 hee⟩
    unfold group
    fin_cases e <;> simp
  · refine ⟨sumPiece q k a b, List.mem_cons_self, (Rect.mem_set_unit (inb := sum_inb a b)).mpr fun i => ?_⟩
    refine Fin.cases ?_ (fun i => ?_) i
    · show 64 * a.val ≤ (y 0).val ∧ (y 0).val < 64 * a.val + 64; omega
    · obtain rfl : i = 0 := Subsingleton.elim _ _
      show 1024 + 4 * b.val ≤ (y 1).val ∧ (y 1).val < 1024 + 4 * b.val + 4; omega

theorem group_sub (a : Fin 4) (b : Fin 2) (L : List (View.Piece (Elt F) S256x1152 .f32)) {y : S256x1152.Idx} (h : ∃ p ∈ L, y ∈ p.1.set) :
    ∃ p ∈ group q k v a b L, y ∈ p.1.set := by
  obtain ⟨p, hp, hy⟩ := h
  exact ⟨p, by unfold group; simp [hp], hy⟩

end Att

end Cert.KernelIdeal.Ring

end
-- ==== Proof.Chunks.lean ====
/-
The exchange's values: the chunk of partial sums each device sends to each other one, the finished chunks and the whole
result, and that the body's loads and stores produce them.
-/
module

public import proofs.«01_k».proof.Proof.Vals

@[expose] public section

noncomputable section

namespace Cert.KernelIdeal.Ring

open Cert.KernelIdeal Cert.KernelIdeal.Gen

open Idealize.ShloMosaic
open Idealize.ShloMosaic.TcCoe Idealize.ShloMosaic.ValueIdx

variable {F : FTy → Type} [FloatOps F]

/-- A device's five inputs. -/
structure Ins (F : FTy → Type) where
  x : (cc0_stg0_0 : Ref sig .tc).ty.Contents (Elt F)
  wq : (cc0_stg1_0 : Ref sig .tc).ty.Contents (Elt F)
  kx : (main_arg2 : Ref sig .tc).ty.Contents (Elt F)
  vx : (main_arg3 : Ref sig .tc).ty.Contents (Elt F)
  wo : (cc0_stg2_0 : Ref sig .tc).ty.Contents (Elt F)

section One
variable (i : Ins F)

/-- The scaled queries. -/
def qv : FVec F S256x1024 .f32 :=
  k0_pay2 (k0_pay1 ((Memref.whole cc0_stg0_0).view.readAt (Elt F) (Rect.unit ![0, 0, 0] S1x256x1024.size inb_S1x256x1024_S1x256x1024_0_0_0).toLoadRect i.x)
    ((Memref.whole cc0_stg1_0).view.readAt (Elt F) (Rect.unit ![0, 0] S1024x1024.size inb_S1024x1024_S1024x1024_0_0).toLoadRect i.wq))
    (FloatOps.ofBits .f32 0x3DB504F3#32)
def kc (a : Fin 4) (b : Fin 2) : FVec F S1024x512 .f32 := cat (Memref.whole main_arg2) (Memref.whole cc0_scratch5).view i.kx a b
def vc (a : Fin 4) (b : Fin 2) : FVec F S1024x512 .f32 := cat (Memref.whole main_arg3) (Memref.whole cc0_scratch6).view i.vx a b
def wov : S1024x1024.Idx → Elt F .f32 :=
  (Memref.whole cc0_stg2_0).view.readAt (Elt F) (Rect.unit ![0, 0] S1024x1024.size inb_S1024x1024_S1024x1024_0_0).toLoadRect i.wo

set_option backward.proofsInPublic true in
/-- Rows `32 d …` of the partial sums. -/
def chunk (d : Dev nD) : FVec F S32x1152 .f32 := fun y =>
  partG (qv i) (kc i) (vc i) (ix2 ⟨32 * d.val + (y 0).val, by have h : (y 0).val < 32 := (y 0).isLt; have h2 : d.val < 8 := d.isLt; omega⟩ ⟨(y 1).val, (y 1).isLt⟩)
def sent (d : Dev nD) : FVec F S32x1152 .bf16 := truncf .bf16 (chunk i d) bitsLt_bf16_f32

abbrev partWith (L : List (View.Piece (Elt F) S256x1152 .f32)) (f6 : (cc0_scratch0 : Ref sig .tc).ty.Contents (Elt F)) :=
  (Memref.whole cc0_scratch0).view.writes (Elt F) f6 L

/-- A load of rows `32 d …` after stores that cover them reads the chunk (columns 0 … 1031). -/
theorem load_chunk (f6 : (cc0_scratch0 : Ref sig .tc).ty.Contents (Elt F)) (L : List (View.Piece (Elt F) S256x1152 .f32)) (hfit : Fits (qv i) (kc i) (vc i) L) (n : Nat)
    (hcov : ∀ y : S256x1152.Idx, (y 0).val / 64 < n → (y 1).val < 1032 → ∃ p ∈ L, y ∈ p.1.set)
    (d : Dev nD) (hd : d.val / 2 < n) (off : Fin 2 → Nat) (hoff : off = ![32 * d.val, 0])
    (inb : ∀ a, off a + S32x1152.size a ≤ S256x1152.size a) (y : S32x1152.Idx) (hy : (y 1).val < 1032) :
    (Memref.whole cc0_scratch0).view.readAt (Elt F) (Rect.unit (s := S256x1152) off S32x1152.size inb).toLoadRect (partWith L f6) y = chunk i d y := by
  subst hoff
  have h0 : (y 0).val < 32 := (y 0).isLt
  show (Memref.whole cc0_scratch0).view.read (Elt F) (partWith L f6) ((Rect.unit (s := S256x1152) ![32 * d.val, 0] S32x1152.size inb).toLoadRect.idx y) = _
  generalize hz : (Rect.unit (s := S256x1152) ![32 * d.val, 0] S32x1152.size inb).toLoadRect.idx y = z
  have e0 : (z 0).val = 32 * d.val + 1 * (y 0).val := by rw [← hz]; rfl
  have e1 : (z 1).val = 0 + 1 * (y 1).val := by rw [← hz]; rfl
  rw [View.read_writes_apply_of_pieces (v := (Memref.whole cc0_scratch0).view) (f := f6) (partG (qv i) (kc i) (vc i)) L hfit _ (hcov _ (by omega) (by omega))]
  show partG _ _ _ _ = partG _ _ _ _
  congr 1
  rw [eq_ix2 z]
  congr 1
  · exact Fin.ext (by show (z 0).val = 32 * d.val + (y 0).val; omega)
  · exact Fin.ext (by show (z 1).val = (y 1).val; omega)

theorem fits_firsts : Fits (qv i) (kc i) (vc i) (firsts (qv i) (kc i) (vc i)) :=
  fits_group _ _ _ _ _ (fits_group _ _ _ _ _ (fits_group _ _ _ _ _ (fits_group _ _ _ _ _ (fun _ h => absurd h List.not_mem_nil))))
theorem fits1 : Fits (qv i) (kc i) (vc i) (upto1 (qv i) (kc i) (vc i)) := fits_group _ _ _ _ _ (fits_firsts i)
theorem fits2 : Fits (qv i) (kc i) (vc i) (upto2 (qv i) (kc i) (vc i)) := fits_group _ _ _ _ _ (fits1 i)
theorem fits3 : Fits (qv i) (kc i) (vc i) (upto3 (qv i) (kc i) (vc i)) := fits_group _ _ _ _ _ (fits2 i)
theorem fits4 : Fits (qv i) (kc i) (vc i) (upto4 (qv i) (kc i) (vc i)) := fits_group _ _ _ _ _ (fits3 i)

/-- The halves of the columns a position belongs to. -/
def inHalf (b : Nat) (y : S256x1152.Idx) : Prop := ((y 1).val < 1024 ∧ (y 1).val / 512 = b) ∨ (1024 ≤ (y 1).val ∧ ((y 1).val - 1024) / 4 = b)
theorem halves (y : S256x1152.Idx) (h : (y 1).val < 1032) : inHalf 0 y ∨ inHalf 1 y := by unfold inHalf; omega

theorem cov_firsts (y : S256x1152.Idx) (h : inHalf 0 y) : ∃ p ∈ firsts (qv i) (kc i) (vc i), y ∈ p.1.set := by
  have h0 := row_lt y
  unfold firsts
  by_cases h3 : (y 0).val / 64 = 3
  · exact group_hits _ _ _ 3 0 _ y h3 h
  refine group_sub _ _ _ 3 0 _ ?_
  by_cases h2 : (y 0).val / 64 = 2
  · exact group_hits _ _ _ 2 0 _ y h2 h
  refine group_sub _ _ _ 2 0 _ ?_
  by_cases h1 : (y 0).val / 64 = 1
  · exact group_hits _ _ _ 1 0 _ y h1 h
  refine group_sub _ _ _ 1 0 _ ?_
  exact group_hits _ _ _ 0 0 _ y (by show _ = 0; omega) h

theorem cov_step (a : Fin 4) (L : List (View.Piece (Elt F) S256x1152 .f32)) (h1 : ∀ y, inHalf 0 y → ∃ p ∈ L, y ∈ p.1.set)
    (h2 : ∀ y : S256x1152.Idx, (y 0).val / 64 < a.val → (y 1).val < 1032 → ∃ p ∈ L, y ∈ p.1.set) :
    (∀ y, inHalf 0 y → ∃ p ∈ group (qv i) (kc i) (vc i) a 1 L, y ∈ p.1.set)
    ∧ ∀ y : S256x1152.Idx, (y 0).val / 64 < a.val + 1 → (y 1).val < 1032 → ∃ p ∈ group (qv i) (kc i) (vc i) a 1 L, y ∈ p.1.set := by
  refine ⟨fun y h => group_sub _ _ _ a 1 L (h1 y h), fun y hy hc => ?_⟩
  by_cases e : (y 0).val / 64 = a.val
  · rcases halves y hc with h | h
    · exact group_sub _ _ _ a 1 L (h1 y h)
    · exact group_hits _ _ _ a 1 L y e h
  · exact group_sub _ _ _ a 1 L (h2 y (by omega) hc)

theorem cov1 : (∀ y, inHalf 0 y → ∃ p ∈ upto1 (qv i) (kc i) (vc i), y ∈ p.1.set)
    ∧ ∀ y : S256x1152.Idx, (y 0).val / 64 < 0 + 1 → (y 1).val < 1032 → ∃ p ∈ upto1 (qv i) (kc i) (vc i), y ∈ p.1.set :=
  cov_step i 0 _ (cov_firsts i) (fun y h _ => absurd h (Nat.not_lt_zero _))
theorem cov2 : (∀ y, inHalf 0 y → ∃ p ∈ upto2 (qv i) (kc i) (vc i), y ∈ p.1.set)
    ∧ ∀ y : S256x1152.Idx, (y 0).val / 64 < 1 + 1 → (y 1).val < 1032 → ∃ p ∈ upto2 (qv i) (kc i) (vc i), y ∈ p.1.set :=
  cov_step i 1 _ (cov1 i).1 (cov1 i).2
theorem cov3 : (∀ y, inHalf 0 y → ∃ p ∈ upto3 (qv i) (kc i) (vc i), y ∈ p.1.set)
    ∧ ∀ y : S256x1152.Idx, (y 0).val / 64 < 2 + 1 → (y 1).val < 1032 → ∃ p ∈ upto3 (qv i) (kc i) (vc i), y ∈ p.1.set :=
  cov_step i 2 _ (cov2 i).1 (cov2 i).2
theorem cov4 : (∀ y, inHalf 0 y → ∃ p ∈ upto4 (qv i) (kc i) (vc i), y ∈ p.1.set)
    ∧ ∀ y : S256x1152.Idx, (y 0).val / 64 < 3 + 1 → (y 1).val < 1032 → ∃ p ∈ upto4 (qv i) (kc i) (vc i), y ∈ p.1.set :=
  cov_step i 3 _ (cov3 i).1 (cov3 i).2

end One

/-! ## What is exchanged -/

variable (inp : Dev nD → Ins F)

set_option backward.proofsInPublic true in
/-- The device whose sums arrive in slot `k` of `c`. -/
def src (c : Dev nD) (k : Fin 7) : Dev nD := ⟨(c.val + 7 - k.val) % 8, Nat.mod_lt _ (by decide)⟩
theorem src_ne (c : Dev nD) (k : Fin 7) : src c k ≠ c := by revert c k; decide
theorem slot_src (c : Dev nD) (k : Fin 7) : slot (src c k) c = k := by revert c k; decide

def got (c : Dev nD) (k : Fin 7) : FVec F S32x1152 .bf16 := sent (inp (src c k)) c
abbrev wide (v : FVec F S32x1152 .bf16) : FVec F S32x1152 .f32 := extf .f32 v bitsLt_bf16_f32
/-- A device's own chunk and the first six that arrive. -/
def acc (c : Dev nD) : FVec F S32x1152 .f32 :=
  addf (addf (addf (addf (addf (addf (chunk (inp c) c) (wide (got inp c 0))) (wide (got inp c 1))) (wide (got inp c 2))) (wide (got inp c 3)))
    (wide (got inp c 4))) (wide (got inp c 5))
/-- The finished chunk of device `c`. -/
def ownv (c : Dev nD) : FVec F S32x1024 .bf16 := k0_pay131 (acc inp c) (got inp c 6) (wov (inp c))

set_option backward.proofsInPublic true in
def allv : FVec F S256x1024 .bf16 := fun y =>
  ownv inp ⟨(y 0).val / 32, by have h : (y 0).val < 256 := (y 0).isLt; show _ < 8; omega⟩ (ix2 ⟨(y 0).val % 32, Nat.mod_lt _ (by decide)⟩ ⟨(y 1).val, (y 1).isLt⟩)

/-- The result. -/
def outv : FVec F S1x256x1024 .f32 := k0_pay133 (allv inp)

/-- The exchange's description. -/
def sp : Sp F where
  Ok s d v := ∀ y : S32x1152.Idx, (y 1).val < 1032 → v y = sent (inp s) d y
  own c := ownv inp c
  all := allv inp

theorem sp_all (d : Dev nD) : (agRows d).view.read (Elt F) (sp inp).all = (sp inp).own d := by
  funext y
  have h0 : (y 0).val < 32 := (y 0).isLt
  obtain ⟨r, s, rfl⟩ : ∃ r s, y = ix2 r s := ⟨_, _, eq_ix2 y⟩
  show allv inp ((Rect.unit (s := S256x1024) ![32 * d.val, 0] S32x1024.size (rows_inb d)).emb (ix2 r s)) = ownv inp d (ix2 r s)
  generalize hz : (Rect.unit (s := S256x1024) ![32 * d.val, 0] S32x1024.size (rows_inb d)).emb (ix2 r s) = z
  have h0 : r.val < 32 := r.isLt
  have e0 : (z 0).val = 32 * d.val + 1 * r.val := by rw [← hz]; rfl
  have e1 : (z 1).val = 0 + 1 * s.val := by rw [← hz]; rfl
  unfold allv
  have d' : (⟨(z 0).val / 32, by have h : (z 0).val < 256 := (z 0).isLt; show _ < 8; omega⟩ : Dev nD) = d := Fin.ext (by show (z 0).val / 32 = d.val; omega)
  rw [d']
  congr 1
  congr 1
  · exact Fin.ext (by show (z 0).val % 32 = r.val; omega)
  · exact Fin.ext (by show (z 1).val = s.val; omega)

/-! ## The last stretch depends on the columns 0 … 1031 only -/

omit [FloatOps F] in
theorem slice_congr {α : Type} (t : Shape) (off : Fin 2 → Nat) (h : S32x1152.Slices off t) (ht : off 1 + t.size ((1 : Fin 2).cast h.1.symm) ≤ 1032) (a b : S32x1152.Idx → α)
    (hab : ∀ y : S32x1152.Idx, (y 1).val < 1032 → a y = b y) : extractStridedSlice t off a h = extractStridedSlice t off b h := by
  funext j
  unfold extractStridedSlice
  refine hab _ ?_
  have := (j ((1 : Fin 2).cast h.1.symm)).isLt
  show off 1 + (j ((1 : Fin 2).cast h.1.symm)).val < 1032
  omega

theorem pay131_congr (a a' : FVec F S32x1152 .f32) (b b' : FVec F S32x1152 .bf16) (w : Vec F S1024x1024 .f32)
    (ha : ∀ y : S32x1152.Idx, (y 1).val < 1032 → a y = a' y) (hb : ∀ y : S32x1152.Idx, (y 1).val < 1032 → b y = b' y) :
    k0_pay131 a b w = k0_pay131 a' b' w := by
  have hs : ∀ y : S32x1152.Idx, (y 1).val < 1032 → addf a (extf .f32 b bitsLt_bf16_f32) y = addf a' (extf .f32 b' bitsLt_bf16_f32) y := by
    intro y hy
    show FloatOps.addf (a y) (FloatOps.extf .f32 bitsLt_bf16_f32 (b y)) = FloatOps.addf (a' y) (FloatOps.extf .f32 bitsLt_bf16_f32 (b' y))
    rw [ha y hy, hb y hy]
  have k := fun t off h ht => slice_congr t off h ht _ _ hs
  simp only [k0_pay131]
  rw [k _ _ slices_S32x1152_o0_0_S32x128 (by decide), k _ _ slices_S32x1152_o0_1024_S32x1 (by decide),
    k _ _ slices_S32x1152_o0_128_S32x128 (by decide), k _ _ slices_S32x1152_o0_1025_S32x1 (by decide),
    k _ _ slices_S32x1152_o0_256_S32x128 (by decide), k _ _ slices_S32x1152_o0_1026_S32x1 (by decide),
    k _ _ slices_S32x1152_o0_384_S32x128 (by decide), k _ _ slices_S32x1152_o0_1027_S32x1 (by decide),
    k _ _ slices_S32x1152_o0_512_S32x128 (by decide), k _ _ slices_S32x1152_o0_1028_S32x1 (by decide),
    k _ _ slices_S32x1152_o0_640_S32x128 (by decide), k _ _ slices_S32x1152_o0_1029_S32x1 (by decide),
    k _ _ slices_S32x1152_o0_768_S32x128 (by decide), k _ _ slices_S32x1152_o0_1030_S32x1 (by decide),
    k _ _ slices_S32x1152_o0_896_S32x128 (by decide), k _ _ slices_S32x1152_o0_1031_S32x1 (by decide)]

theorem pay129_congr (a a' : FVec F S32x1152 .f32) (r : Fin 6 → FVec F S1x32x1152 .bf16) (r' : Fin 6 → FVec F S32x1152 .bf16) (y : S32x1152.Idx)
    (ha : a y = a' y) (hr : ∀ k, shapeCast S32x1152 (r k) shapeCasts_S1x32x1152_S32x1152 y = r' k y) :
    k0_pay129 a (r 0) (r 1) (r 2) (r 3) (r 4) (r 5) y
      = addf (addf (addf (addf (addf (addf a' (wide (r' 0))) (wide (r' 1))) (wide (r' 2))) (wide (r' 3))) (wide (r' 4))) (wide (r' 5)) y := by
  simp only [k0_pay129]
  simp only [addf, extf, ha, hr]

/-- A received slot, loaded. -/
theorem load_slot (rv : (cc0_scratch2 : Ref sig .tc).ty.Contents (Elt F)) (k : Fin 7)
    (inb : ∀ a, (![k.val, 0, 0] : Fin 3 → Nat) a + S1x32x1152.size a ≤ S7x32x1152.size a) :
    shapeCast S32x1152 (recvM.view.readAt (Elt F) (Rect.unit (s := S7x32x1152) ![k.val, 0, 0] S1x32x1152.size inb).toLoadRect rv) shapeCasts_S1x32x1152_S32x1152
      = (recvSlot k).view.read (Elt F) rv := rfl

/-- The finished chunk from the loads. -/
theorem own_of_loads (c : Dev nD) (p : FVec F S32x1152 .f32) (rv : (cc0_scratch2 : Ref sig .tc).ty.Contents (Elt F))
    (hp : ∀ y : S32x1152.Idx, (y 1).val < 1032 → p y = chunk (inp c) c y)
    (hrv : ∀ s, s ≠ c → (sp inp).Ok s c ((recvSlot (slot s c)).view.read (Elt F) rv)) :
    k0_pay131 (k0_pay129 p
        (recvM.view.readAt (Elt F) (Rect.unit (s := S7x32x1152) ![0, 0, 0] S1x32x1152.size inb_S7x32x1152_S1x32x1152_0_0_0).toLoadRect rv)
        (recvM.view.readAt (Elt F) (Rect.unit (s := S7x32x1152) ![1, 0, 0] S1x32x1152.size inb_S7x32x1152_S1x32x1152_1_0_0).toLoadRect rv)
        (recvM.view.readAt (Elt F) (Rect.unit (s := S7x32x1152) ![2, 0, 0] S1x32x1152.size inb_S7x32x1152_S1x32x1152_2_0_0).toLoadRect rv)
        (recvM.view.readAt (Elt F) (Rect.unit (s := S7x32x1152) ![3, 0, 0] S1x32x1152.size inb_S7x32x1152_S1x32x1152_3_0_0).toLoadRect rv)
        (recvM.view.readAt (Elt F) (Rect.unit (s := S7x32x1152) ![4, 0, 0] S1x32x1152.size inb_S7x32x1152_S1x32x1152_4_0_0).toLoadRect rv)
        (recvM.view.readAt (Elt F) (Rect.unit (s := S7x32x1152) ![5, 0, 0] S1x32x1152.size inb_S7x32x1152_S1x32x1152_5_0_0).toLoadRect rv))
      (k0_pay130 (recvM.view.readAt (Elt F) (Rect.unit (s := S7x32x1152) ![6, 0, 0] S1x32x1152.size inb_S7x32x1152_S1x32x1152_6_0_0).toLoadRect rv))
      (wov (inp c)) = ownv inp c := by
  have hk : ∀ (k : Fin 7) (y : S32x1152.Idx), (y 1).val < 1032 → (recvSlot k).view.read (Elt F) rv y = got inp c k y := by
    intro k y hy
    have := hrv (src c k) (src_ne c k)
    rw [slot_src] at this
    exact this y hy
  unfold ownv
  refine pay131_congr _ _ _ _ _ (fun y hy => ?_) (fun y hy => hk 6 y hy)
  exact pay129_congr p (chunk (inp c) c)
    ![recvM.view.readAt (Elt F) (Rect.unit (s := S7x32x1152) ![0, 0, 0] S1x32x1152.size inb_S7x32x1152_S1x32x1152_0_0_0).toLoadRect rv,
      recvM.view.readAt (Elt F) (Rect.unit (s := S7x32x1152) ![1, 0, 0] S1x32x1152.size inb_S7x32x1152_S1x32x1152_1_0_0).toLoadRect rv,
      recvM.view.readAt (Elt F) (Rect.unit (s := S7x32x1152) ![2, 0, 0] S1x32x1152.size inb_S7x32x1152_S1x32x1152_2_0_0).toLoadRect rv,
      recvM.view.readAt (Elt F) (Rect.unit (s := S7x32x1152) ![3, 0, 0] S1x32x1152.size inb_S7x32x1152_S1x32x1152_3_0_0).toLoadRect rv,
      recvM.view.readAt (Elt F) (Rect.unit (s := S7x32x1152) ![4, 0, 0] S1x32x1152.size inb_S7x32x1152_S1x32x1152_4_0_0).toLoadRect rv,
      recvM.view.readAt (Elt F) (Rect.unit (s := S7x32x1152) ![5, 0, 0] S1x32x1152.size inb_S7x32x1152_S1x32x1152_5_0_0).toLoadRect rv]
    ![got inp c 0, got inp c 1, got inp c 2, got inp c 3, got inp c 4, got inp c 5] y (hp y hy) fun k => by
      match k with
      | ⟨0, _⟩ => exact hk 0 y hy
      | ⟨1, _⟩ => exact hk 1 y hy
      | ⟨2, _⟩ => exact hk 2 y hy
      | ⟨3, _⟩ => exact hk 3 y hy
      | ⟨4, _⟩ => exact hk 4 y hy
      | ⟨5, _⟩ => exact hk 5 y hy

end Cert.KernelIdeal.Ring

end
-- ==== Proof.Run.lean ====
/-
The body's run.
-/
module

public import proofs.«01_k».proof.Proof.Meets
public import proofs.«01_k».proof.Proof.Chunks
public import Idealize.ShloMosaic.Lib.VecWindow
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the body leaves. -/
def post (inp : Dev nD → Ins F) (c : Dev nD)
    (x : Bf (F := F) c (Memref.whole cc0_stg0_0)) (wq : Bf (F := F) c (Memref.whole cc0_stg1_0)) (wo : Bf (F := F) c (Memref.whole cc0_stg2_0))
    (kx : Bf (F := F) c (Memref.whole main_arg2)) (vx : Bf (F := F) c (Memref.whole main_arg3)) : sProp 𝕄 :=
  iprop(pt c (Memref.whole cc0_stg0_0) x ∗ pt c (Memref.whole cc0_stg1_0) wq ∗ pt c (Memref.whole cc0_stg2_0) wo
    ∗ pt c (Memref.whole main_arg2) kx ∗ pt c (Memref.whole main_arg3) vx
    ∗ pt c (Memref.whole cc0_stg3_0) (outv inp)
    ∗ (∃ f, pt (F := F) c partM f) ∗ (∃ f, pt (F := F) c stageM f) ∗ (∃ f, pt (F := F) c recvM f) ∗ (∃ f, pt (F := F) c agsM f) ∗ (∃ f, pt (F := F) c agM f)
    ∗ (∃ f, pt (F := F) c (Memref.whole cc0_scratch5) f) ∗ (∃ f, pt (F := F) c (Memref.whole cc0_scratch6) f)
    ∗ semVal (barCell c) 0 ∗ semVal (rsCell c) 0 ∗ semVal (agCell c) 0
    ∗ bigSep Finset.univ (fun j : Fin 8 => (semVal (rsOut c j) 0 : sProp 𝕄)) ∗ bigSep Finset.univ (fun k : Fin 7 => (semVal (agOut c k) 0 : sProp 𝕄))
    ∗ bigSep Finset.univ (fun i : Fin 16 => (semVal (loc c i) 0 : sProp 𝕄))
    ∗ (∃ W, owes (c : Thread nD τ) 0 W))

/-- A store over a whole buffer leaves what was stored. -/
theorem whole_store {F : FTy → Type} (b : Ref sig .tc) (f : b.ty.Contents (Elt F)) {off : Fin b.ty.shape.rank → ℕ} (inb : ∀ a, off a + b.ty.shape.size a ≤ b.ty.shape.size a)
    (w : (Rect.unit off b.ty.shape.size inb).shape.Idx → Elt F b.ty.elt) : (View.whole b).writes (Elt F) f [⟨Rect.unit off b.ty.shape.size inb, w⟩] = w := by
  have h := View.read_writes_full (View.whole b) f inb w []
  rw [View.read_whole] at h
  exact h

/-- A store over the whole of the own rows' buffer leaves what was stored. -/
theorem own_store {F : FTy → Type} [FloatOps F] {c : Dev nD} (f : Bf (F := F) c (Memref.whole cc0_scratch3)) (p : S32x1024.Idx → Elt F .bf16) :
    (Memref.whole cc0_scratch3).view.writes (Elt F) f [⟨Rect.unit ![0, 0] S32x1024.size inb_S32x1024_S32x1024_0_0, p⟩] = p :=
  whole_store cc0_scratch3 f inb_S32x1024_S32x1024_0_0 p

/-- Read back whole, it is what was stored. -/
theorem own_reload {F : FTy → Type} [FloatOps F] (p : S32x1024.Idx → Elt F .bf16) :
    k0_pay132 ((Memref.whole cc0_scratch3).view.readCov [⟨Rect.unit ![0, 0] S32x1024.size inb_S32x1024_S32x1024_0_0, p⟩]
      (Rect.unit ![0, 0] S32x1024.size inb_S32x1024_S32x1024_0_0).toLoadRect) = p :=
  (congrArg k0_pay132 (View.readCov_full (Memref.whole cc0_scratch3).view inb_S32x1024_S32x1024_0_0 inb_S32x1024_S32x1024_0_0 p [])).trans (shapeCast_self _ _)

/-- The gathered result, loaded whole. -/
theorem out_load {F : FTy → Type} [FloatOps F] (g : S256x1024.Idx → Elt F .bf16) :
    View.readAt (Elt F) agM.view (Rect.unit ![0, 0] S256x1024.size inb_S256x1024_S256x1024_0_0).toLoadRect g = g :=
  View.readAt_full agM.view g inb_S256x1024_S256x1024_0_0

/-- A store over the whole result leaves what was stored. -/
theorem out_store {F : FTy → Type} [FloatOps F] {c : Dev nD} (f : Bf (F := F) c (Memref.whole cc0_stg3_0)) (p : S1x256x1024.Idx → Elt F .f32) :
    (Memref.whole cc0_stg3_0).view.writes (Elt F) f [⟨Rect.unit ![0, 0, 0] S1x256x1024.size inb_S1x256x1024_S1x256x1024_0_0_0, p⟩] = p :=
  whole_store cc0_stg3_0 f inb_S1x256x1024_S1x256x1024_0_0_0 p

set_option maxHeartbeats 4000000 in
set_option sl_exec.dmaWindow true in
set_option sl_exec.squeezeSlice true in
set_option sl_exec.resultNames true in
theorem run (inp : Dev nD → Ins F) (K : Dev nD × Fin 18 → ℕ) (c : Dev nD)
    (x : Bf (F := F) c (Memref.whole cc0_stg0_0)) (wq : Bf (F := F) c (Memref.whole cc0_stg1_0)) (wo : Bf (F := F) c (Memref.whole cc0_stg2_0))
    (kx : Bf (F := F) c (Memref.whole main_arg2)) (vx : Bf (F := F) c (Memref.whole main_arg3))
    (hin : inp c = ⟨x, wq, kx, vx, wo⟩) :
      iprop(recs (sp inp) K ∗ levAts L lv ∗ preX (F := F) c ∗ preB c x wq wo kx vx) ⊢ wp frame (wpE (defs₀ (F := F)) 𝒱₀ c none) Set.univ (prog (F := F)) (fun _ => post inp c x wq wo kx vx) := by
  have hmw : ∀ q : DmaSem sig, 21 ≤ q.val → ((levAts L lv : sProp 𝕄) ⊢ MayWait (c : Thread nD τ) (.dma q) () (rsOwed c 8)) :=
    fun q hq => mayWait c _ (above_rs c 8) (by have hq2 : q.val < 37 := q.isLt; show lvOf q.val ≤ 1; unfold lvOf; rw [if_neg (by omega), if_neg (by omega), if_neg (by omega)]; decide)
  unfold preX preB
  rw [sep7, sep8, sep7, sep8, sep7, sep8, sep16]
  iintro ⟨#HR, #HL, ⟨⟨N0, N1, N2, N3, N4, N5, N6⟩, ⟨T0, T1, T2, T3, T4, T5, T6, T7⟩, ⟨U0, U1, U2, U3, U4, U5, U6⟩, ⟨%W, HO⟩, CB, CR, CA, AB, AR, AA,
      ⟨AO0, AO1, AO2, AO3, AO4, AO5, AO6, AO7⟩, ⟨AG0, AG1, AG2, AG3, AG4, AG5, AG6⟩⟩,
    ⟨B0, B1, B4, B2, B3, ⟨%f5, B5⟩, ⟨%f6, B6⟩, ⟨%f9, B9⟩, ⟨%f11, B11⟩, ⟨%f12, B12⟩, ⟨G0, G1, G2, G3, G4, G5, G6, G7⟩, HAg,
     ⟨S0, S1, S2, S3, S4, S5, S6, S7, S8, S9, S10, S11, S12, S13, S14, S15⟩⟩⟩
  unfold noteRes
  sl_exec_parts
  icases N0 with ⟨NT, NP⟩
  iapply (step_note (sp inp) K c 0 _ (Fin.ext (k0_dev1_eq c)) _ _ (by decide)) $$ [HO NT NP]
  isplitr; iexact HR
  isplitl [HO]; iexact HO
  isplitl [NT]; iexact NT
  iexact NP
  iintro HO
  sl_exec_parts
  icases N1 with ⟨NT, NP⟩
  iapply (step_note (sp inp) K c 1 _ (Fin.ext (k0_dev2_eq c)) _ _ (by decide)) $$ [HO NT NP]
  isplitr; iexact HR
  isplitl [HO]; iexact HO
  isplitl [NT]; iexact NT
  iexact NP
  iintro HO
  sl_exec_parts
  icases N2 with ⟨NT, NP⟩
  iapply (step_note (sp inp) K c 2 _ (Fin.ext (k0_dev3_eq c)) _ _ (by decide)) $$ [HO NT NP]
  isplitr; iexact HR
  isplitl [HO]; iexact HO
  isplitl [NT]; iexact NT
  iexact NP
  iintro HO
  sl_exec_parts
  icases N3 with ⟨NT, NP⟩
  iapply (step_note (sp inp) K c 3 _ (Fin.ext (k0_dev4_eq c)) _ _ (by decide)) $$ [HO NT NP]
  isplitr; iexact HR
  isplitl [HO]; iexact HO
  isplitl [NT]; iexact NT
  iexact NP
  iintro HO
  sl_exec_parts
  icases N4 with ⟨NT, NP⟩
  iapply (step_note (sp inp) K c 4 _ (Fin.ext (k0_dev5_eq c)) _ _ (by decide)) $$ [HO NT NP]
  isplitr; iexact HR
  isplitl [HO]; iexact HO
  isplitl [NT]; iexact NT
  iexact NP
  iintro HO
  sl_exec_parts
  icases N5 with ⟨NT, NP⟩
  iapply (step_note (sp inp) K c 5 _ (Fin.ext (k0_dev6_eq c)) _ _ (by decide)) $$ [HO NT NP]
  isplitr; iexact HR
  isplitl [HO]; iexact HO
  isplitl [NT]; iexact NT
  iexact NP
  iintro HO
  sl_exec_parts
  icases N6 with ⟨NT, NP⟩
  iapply (step_note (sp inp) K c 6 _ (Fin.ext (k0_dev7_eq c)) _ _ (by decide)) $$ [HO NT NP]
  isplitr; iexact HR
  isplitl [HO]; iexact HO
  isplitl [NT]; iexact NT
  iexact NP
  iintro HO
  sl_exec_parts
  iapply (step_bar (sp inp) K c _ (by decide)) $$ [HO CB AB]
  isplitr; iexact HR
  isplitr; iexact HL
  isplitl [HO]; iexact HO
  isplitl [CB]; iexact CB
  iexact AB
  iintro ⟨⟨%W', HO⟩, AB, HB⟩
  ihave HH := (notes_split (F := F) c) $$ [HB T0 T1 T2 T3 T4 T5 T6 T7]
  · rw [sep8]
    isplitl [HB]; · iexact HB
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  rw [sep8, sep7]
  icases HH with ⟨⟨P0, P1, P2, P3, P4, P5, P6, P7⟩, ⟨D0, D1, D2, D3, D4, D5, D6⟩⟩
  sl_exec_parts
  have hall := sp_all inp
  have eq1 : run.sl.B6_25 c x wq kx vx = upto1 (qv (inp c)) (kc (inp c)) (vc (inp c)) := by rw [hin]; rfl
  iapply (step_peek c 0) $$ G0
  iintro %w0 G0
  conv => rhs; simp only [Prog.lift, Prog.bind_op, Prog.bind_ret, Prog.pure_eq_ret]
  iapply (step_put c 0 _ rfl) $$ G0
  iintro %g0 %hg0 G0
  rw [wp_guard]
  iapply (step_send (sp inp) K c 0 (p := k0_cond1 c = 1#1) (goes0 c) (n := fun h => ⟨k0_dev8, k0_dev8_lt c h⟩) (fun h => Fin.ext k0_dev8_eq)
    (off := k0_off1 c) (fun h => k0_off1_inb c h) (lands0 c) g0 (fun _ => fun y hy => by rw [hg0]; exact congrArg (FloatOps.truncf .bf16 bitsLt_bf16_f32) (load_chunk (inp c) f6 _ (eq1 ▸ fits1 (inp c)) 1 (eq1 ▸ (cov1 (inp c)).2) 0 (by decide) ![0, 0] rfl inb_S256x1152_S32x1152_0_0 y hy)) (rsOwed c 7)) $$ [HO G0 P0]
  · isplitr; · iexact HR
    isplitl [HO]; · iexists _; iexact HO
    isplitl [G0]; · iexact G0
    iexact P0
  iintro ⟨HO, G0⟩
  sl_exec_parts
  iapply (step_peek c 1) $$ G1
  iintro %w1 G1
  conv => rhs; simp only [Prog.lift, Prog.bind_op, Prog.bind_ret, Prog.pure_eq_ret]
  iapply (step_put c 1 _ rfl) $$ G1
  iintro %g1 %hg1 G1
  rw [wp_guard]
  iapply (step_send (sp inp) K c 1 (p := k0_cond2 c = 1#1) (goes1 c) (n := fun h => ⟨k0_dev9, k0_dev9_lt c h⟩) (fun h => Fin.ext k0_dev9_eq)
    (off := k0_off2 c) (fun h => k0_off2_inb c h) (lands1 c) g1 (fun _ => fun y hy => by rw [hg1]; exact congrArg (FloatOps.truncf .bf16 bitsLt_bf16_f32) (load_chunk (inp c) f6 _ (eq1 ▸ fits1 (inp c)) 1 (eq1 ▸ (cov1 (inp c)).2) 1 (by decide) ![32, 0] rfl inb_S256x1152_S32x1152_32_0 y hy)) (rsOwed c 6)) $$ [HO G1 P1]
  · isplitr; · iexact HR
    isplitl [HO]; · iexact HO
    isplitl [G1]; · iexact G1
    iexact P1
  iintro ⟨HO, G1⟩
  sl_exec_parts
  have eq2 : run.sl.B6_30 c x wq kx vx = upto2 (qv (inp c)) (kc (inp c)) (vc (inp c)) := by
    unfold run.sl.B6_30 upto2; rw [← eq1, hin]; rfl
  iapply (step_peek c 2) $$ G2
  iintro %w2 G2
  conv => rhs; simp only [Prog.lift, Prog.bind_op, Prog.bind_ret, Prog.pure_eq_ret]
  iapply (step_put c 2 _ rfl) $$ G2
  iintro %g2 %hg2 G2
  rw [wp_guard]
  iapply (step_send (sp inp) K c 2 (p := k0_cond3 c = 1#1) (goes2 c) (n := fun h => ⟨k0_dev10, k0_dev10_lt c h⟩) (fun h => Fin.ext k0_dev10_eq)
    (off := k0_off3 c) (fun h => k0_off3_inb c h) (lands2 c) g2 (fun _ => fun y hy => by rw [hg2]; exact congrArg (FloatOps.truncf .bf16 bitsLt_bf16_f32) (load_chunk (inp c) f6 _ (eq2 ▸ fits2 (inp c)) 2 (eq2 ▸ (cov2 (inp c)).2) 2 (by decide) ![64, 0] rfl inb_S256x1152_S32x1152_64_0 y hy)) (rsOwed c 5)) $$ [HO G2 P2]
  · isplitr; · iexact HR
    isplitl [HO]; · iexact HO
    isplitl [G2]; · iexact G2
    iexact P2
  iintro ⟨HO, G2⟩
  sl_exec_parts
  iapply (step_peek c 3) $$ G3
  iintro %w3 G3
  conv => rhs; simp only [Prog.lift, Prog.bind_op, Prog.bind_ret, Prog.pure_eq_ret]
  iapply (step_put c 3 _ rfl) $$ G3
  iintro %g3 %hg3 G3
  rw [wp_guard]
  iapply (step_send (sp inp) K c 3 (p := k0_cond4 c = 1#1) (goes3 c) (n := fun h => ⟨k0_dev11, k0_dev11_lt c h⟩) (fun h => Fin.ext k0_dev11_eq)
    (off := k0_off4 c) (fun h => k0_off4_inb c h) (lands3 c) g3 (fun _ => fun y hy => by rw [hg3]; exact congrArg (FloatOps.truncf .bf16 bitsLt_bf16_f32) (load_chunk (inp c) f6 _ (eq2 ▸ fits2 (inp c)) 2 (eq2 ▸ (cov2 (inp c)).2) 3 (by decide) ![96, 0] rfl inb_S256x1152_S32x1152_96_0 y hy)) (rsOwed c 4)) $$ [HO G3 P3]
  · isplitr; · iexact HR
    isplitl [HO]; · iexact HO
    isplitl [G3]; · iexact G3
    iexact P3
  iintro ⟨HO, G3⟩
  sl_exec_parts
  have eq3 : run.sl.B6_35 c x wq kx vx = upto3 (qv (inp c)) (kc (inp c)) (vc (inp c)) := by
    unfold run.sl.B6_35 upto3; rw [← eq2, hin]; rfl
  iapply (step_peek c 4) $$ G4
  iintro %w4 G4
  conv => rhs; simp only [Prog.lift, Prog.bind_op, Prog.bind_ret, Prog.pure_eq_ret]
  iapply (step_put c 4 _ rfl) $$ G4
  iintro %g4 %hg4 G4
  sl_exec_parts
  conv => rhs; simp only [Prog.lift, Prog.bind_op, Prog.bind_ret, Prog.pure_eq_ret]
  rw [wp_guard]
  iapply (step_send (sp inp) K c 4 (p := k0_cond5 c = 1#1) (goes4 c) (n := fun h => ⟨k0_dev12, k0_dev12_lt c h⟩) (fun h => Fin.ext k0_dev12_eq)
    (off := k0_off5 c) (fun h => k0_off5_inb c h) (lands4 c) g4 (fun _ => fun y hy => by rw [hg4]; exact congrArg (FloatOps.truncf .bf16 bitsLt_bf16_f32) (load_chunk (inp c) f6 _ (eq3 ▸ fits3 (inp c)) 3 (eq3 ▸ (cov3 (inp c)).2) 4 (by decide) ![128, 0] rfl inb_S256x1152_S32x1152_128_0 y hy)) (rsOwed c 3)) $$ [HO G4 P4]
  · isplitr; · iexact HR
    isplitl [HO]; · iexact HO
    isplitl [G4]; · iexact G4
    iexact P4
  iintro ⟨HO, G4⟩
  sl_exec_parts
  iapply (step_peek c 5) $$ G5
  iintro %w5 G5
  conv => rhs; simp only [Prog.lift, Prog.bind_op, Prog.bind_ret, Prog.pure_eq_ret]
  iapply (step_put c 5 _ rfl) $$ G5
  iintro %g5 %hg5 G5
  rw [wp_guard]
  iapply (step_send (sp inp) K c 5 (p := k0_cond6 c = 1#1) (goes5 c) (n := fun h => ⟨k0_dev13, k0_dev13_lt c h⟩) (fun h => Fin.ext k0_dev13_eq)
    (off := k0_off6 c) (fun h => k0_off6_inb c h) (lands5 c) g5 (fun _ => fun y hy => by rw [hg5]; exact congrArg (FloatOps.truncf .bf16 bitsLt_bf16_f32) (load_chunk (inp c) f6 _ (eq3 ▸ fits3 (inp c)) 3 (eq3 ▸ (cov3 (inp c)).2) 5 (by decide) ![160, 0] rfl inb_S256x1152_S32x1152_160_0 y hy)) (rsOwed c 2)) $$ [HO G5 P5]
  · isplitr; · iexact HR
    isplitl [HO]; · iexact HO
    isplitl [G5]; · iexact G5
    iexact P5
  iintro ⟨HO, G5⟩
  sl_exec_parts
  have eq4 : run.sl.B6_40 c x wq kx vx = upto4 (qv (inp c)) (kc (inp c)) (vc (inp c)) := by
    unfold run.sl.B6_40 upto4; rw [← eq3, hin]; rfl
  iapply (step_peek c 6) $$ G6
  iintro %w6 G6
  conv => rhs; simp only [Prog.lift, Prog.bind_op, Prog.bind_ret, Prog.pure_eq_ret]
  iapply (step_put c 6 _ rfl) $$ G6
  iintro %g6 %hg6 G6
  rw [wp_guard]
  iapply (step_send (sp inp) K c 6 (p := k0_cond7 c = 1#1) (goes6 c) (n := fun h => ⟨k0_dev14, k0_dev14_lt c h⟩) (fun h => Fin.ext k0_dev14_eq)
    (off := k0_off7 c) (fun h => k0_off7_inb c h) (lands6 c) g6 (fun _ => fun y hy => by rw [hg6]; exact congrArg (FloatOps.truncf .bf16 bitsLt_bf16_f32) (load_chunk (inp c) f6 _ (eq4 ▸ fits4 (inp c)) 4 (eq4 ▸ (cov4 (inp c)).2) 6 (by decide) ![192, 0] rfl inb_S256x1152_S32x1152_192_0 y hy)) (rsOwed c 1)) $$ [HO G6 P6]
  · isplitr; · iexact HR
    isplitl [HO]; · iexact HO
    isplitl [G6]; · iexact G6
    iexact P6
  iintro ⟨HO, G6⟩
  sl_exec_parts
  iapply (step_peek c 7) $$ G7
  iintro %w7 G7
  conv => rhs; simp only [Prog.lift, Prog.bind_op, Prog.bind_ret, Prog.pure_eq_ret]
  iapply (step_put c 7 _ rfl) $$ G7
  iintro %g7 %hg7 G7
  rw [wp_guard]
  iapply (step_send (sp inp) K c 7 (p := k0_cond8 c = 1#1) (goes7 c) (n := fun h => ⟨k0_dev15, k0_dev15_lt c h⟩) (fun h => Fin.ext k0_dev15_eq)
    (off := k0_off8 c) (fun h => k0_off8_inb c h) (lands7 c) g7 (fun _ => fun y hy => by rw [hg7]; exact congrArg (FloatOps.truncf .bf16 bitsLt_bf16_f32) (load_chunk (inp c) f6 _ (eq4 ▸ fits4 (inp c)) 4 (eq4 ▸ (cov4 (inp c)).2) 7 (by decide) ![224, 0] rfl inb_S256x1152_S32x1152_224_0 y hy)) (rsOwed c 0)) $$ [HO G7 P7]
  · isplitr; · iexact HR
    isplitl [HO]; · iexact HO
    isplitl [G7]; · iexact G7
    iexact P7
  iintro ⟨HO, G7⟩
  sl_exec_parts
  ihave AR := (rs_start (sp inp) c) $$ AR
  iapply (step_rs (sp inp) K c 0 0 6) $$ [HO CR AR]
  · isplitr; · iexact HR
    isplitr; · iexact HL
    isplitl [HO]; · iexact HO
    isplitl [CR]; · iexact CR
    iexact AR
  iintro ⟨HO, CR, AR⟩
  sl_exec_parts
  iapply (step_rs (sp inp) K c 1 1 5) $$ [HO CR AR]
  · isplitr; · iexact HR
    isplitr; · iexact HL
    isplitl [HO]; · iexact HO
    isplitl [CR]; · iexact CR
    iexact AR
  iintro ⟨HO, CR, AR⟩
  sl_exec_parts
  iapply (step_rs (sp inp) K c 2 2 4) $$ [HO CR AR]
  · isplitr; · iexact HR
    isplitr; · iexact HL
    isplitl [HO]; · iexact HO
    isplitl [CR]; · iexact CR
    iexact AR
  iintro ⟨HO, CR, AR⟩
  sl_exec_parts
  iapply (step_rs (sp inp) K c 3 3 3) $$ [HO CR AR]
  · isplitr; · iexact HR
    isplitr; · iexact HL
    isplitl [HO]; · iexact HO
    isplitl [CR]; · iexact CR
    iexact AR
  iintro ⟨HO, CR, AR⟩
  sl_exec_parts
  iapply (step_rs (sp inp) K c 4 4 2) $$ [HO CR AR]
  · isplitr; · iexact HR
    isplitr; · iexact HL
    isplitl [HO]; · iexact HO
    isplitl [CR]; · iexact CR
    iexact AR
  iintro ⟨HO, CR, AR⟩
  sl_exec_parts
  iapply (step_rs (sp inp) K c 5 5 1) $$ [HO CR AR]
  · isplitr; · iexact HR
    isplitr; · iexact HL
    isplitl [HO]; · iexact HO
    isplitl [CR]; · iexact CR
    iexact AR
  iintro ⟨HO, CR, AR⟩
  sl_exec_parts
  iapply (step_rs_last (sp inp) K c 6) $$ [HO CR AR]
  · isplitr; · iexact HR
    isplitr; · iexact HL
    isplitl [HO]; · iexact HO
    isplitl [CR]; · iexact CR
    iexact AR
  iintro ⟨HO, AR, HP⟩
  icases (recv_join (sp inp) c) $$ HP with ⟨%rv, %hrv, B8⟩
  sl_exec_parts
  iapply (step_rows_peek c (k0_off10_eq c) (k0_off10_inb c)) $$ HAg
  iintro %w10 HAg
  conv => rhs; simp only [Prog.lift, Prog.bind_op, Prog.bind_ret, Prog.pure_eq_ret]
  have hpay : k0_pay131 (run.sl.r_18 c x wq kx vx f6 rv) (run.sl.r_19 c rv) ((Memref.whole cc0_stg2_0).view.readAt (Elt F) (Rect.unit ![0, 0] S1024x1024.size inb_S1024x1024_S1024x1024_0_0).toLoadRect wo) = ownv inp c := by
    have h := own_of_loads inp c _ rv (fun y hy => load_chunk (inp c) f6 _ (eq4 ▸ fits4 (inp c)) 4 (eq4 ▸ (cov4 (inp c)).2) c (by have h : c.val < 8 := c.isLt; omega) _ (k0_off9_eq c) (k0_off9_inb c) y hy) hrv
    rw [show wov (inp c) = (Memref.whole cc0_stg2_0).view.readAt (Elt F) (Rect.unit ![0, 0] S1024x1024.size inb_S1024x1024_S1024x1024_0_0).toLoadRect wo from by rw [hin]; rfl] at h
    exact h
  have hown : (Memref.whole cc0_scratch3).view.writes (Elt F) f9 (run.sl.B9_1 c x wq wo kx vx f6 rv) = (sp inp).own c := by
    unfold run.sl.B9_1; rw [hpay]; exact own_store f9 (ownv inp c)
  have hput : k0_pay132 (run.sl.v1019 c x wq wo kx vx f6 rv) = (sp inp).own c := by
    unfold run.sl.v1019 run.sl.B9_1; rw [hpay]; exact own_reload (ownv inp c)
  iapply (step_rows_put (sp inp) c hall (k0_off10_eq c) (k0_off10_inb c) hput) $$ HAg
  iintro HAg
  rw [hown]
  ihave HH := (Entails.of_eq (own_eq c ((sp inp).own c))) $$ B9
  rw [sep7]
  icases HH with ⟨HZ, Z0, Z1, Z2, Z3, Z4, Z5, Z6⟩
  sl_exec_parts
  iapply (step_share (sp inp) K c hall 0 _ (Fin.ext (k0_dev16_eq c)) (k0_off11_inb c) (k0_off11_eq c) (agOwed c 6)) $$ [HO Z0 D0 U0]
  · isplitr; · iexact HR
    isplitl [HO]; · iexact HO
    isplitl [Z0]; · iexact Z0
    isplitl [D0]; · iexact D0
    iexact U0
  iintro ⟨HO, Z0⟩
  sl_exec_parts
  iapply (step_share (sp inp) K c hall 1 _ (Fin.ext (k0_dev17_eq c)) (k0_off11_inb c) (k0_off11_eq c) (agOwed c 5)) $$ [HO Z1 D1 U1]
  · isplitr; · iexact HR
    isplitl [HO]; · iexact HO
    isplitl [Z1]; · iexact Z1
    isplitl [D1]; · iexact D1
    iexact U1
  iintro ⟨HO, Z1⟩
  sl_exec_parts
  iapply (step_share (sp inp) K c hall 2 _ (Fin.ext (k0_dev18_eq c)) (k0_off11_inb c) (k0_off11_eq c) (agOwed c 4)) $$ [HO Z2 D2 U2]
  · isplitr; · iexact HR
    isplitl [HO]; · iexact HO
    isplitl [Z2]; · iexact Z2
    isplitl [D2]; · iexact D2
    iexact U2
  iintro ⟨HO, Z2⟩
  sl_exec_parts
  iapply (step_share (sp inp) K c hall 3 _ (Fin.ext (k0_dev19_eq c)) (k0_off11_inb c) (k0_off11_eq c) (agOwed c 3)) $$ [HO Z3 D3 U3]
  · isplitr; · iexact HR
    isplitl [HO]; · iexact HO
    isplitl [Z3]; · iexact Z3
    isplitl [D3]; · iexact D3
    iexact U3
  iintro ⟨HO, Z3⟩
  sl_exec_parts
  iapply (step_share (sp inp) K c hall 4 _ (Fin.ext (k0_dev20_eq c)) (k0_off11_inb c) (k0_off11_eq c) (agOwed c 2)) $$ [HO Z4 D4 U4]
  · isplitr; · iexact HR
    isplitl [HO]; · iexact HO
    isplitl [Z4]; · iexact Z4
    isplitl [D4]; · iexact D4
    iexact U4
  iintro ⟨HO, Z4⟩
  sl_exec_parts
  iapply (step_share (sp inp) K c hall 5 _ (Fin.ext (k0_dev21_eq c)) (k0_off11_inb c) (k0_off11_eq c) (agOwed c 1)) $$ [HO Z5 D5 U5]
  · isplitr; · iexact HR
    isplitl [HO]; · iexact HO
    isplitl [Z5]; · iexact Z5
    isplitl [D5]; · iexact D5
    iexact U5
  iintro ⟨HO, Z5⟩
  sl_exec_parts
  iapply (step_share (sp inp) K c hall 6 _ (Fin.ext (k0_dev22_eq c)) (k0_off11_inb c) (k0_off11_eq c) (agOwed c 0)) $$ [HO Z6 D6 U6]
  · isplitr; · iexact HR
    isplitl [HO]; · iexact HO
    isplitl [Z6]; · iexact Z6
    isplitl [D6]; · iexact D6
    iexact U6
  iintro ⟨HO, Z6⟩
  sl_exec_parts
  ihave AA := (ag_start (sp inp) c) $$ AA
  iapply (step_ag (sp inp) K c 0 6) $$ [HO CA AA]
  · isplitr; · iexact HR
    isplitr; · iexact HL
    isplitl [HO]; · iexact HO
    isplitl [CA]; · iexact CA
    iexact AA
  iintro ⟨HO, CA, AA⟩
  sl_exec_parts
  iapply (step_ag (sp inp) K c 1 5) $$ [HO CA AA]
  · isplitr; · iexact HR
    isplitr; · iexact HL
    isplitl [HO]; · iexact HO
    isplitl [CA]; · iexact CA
    iexact AA
  iintro ⟨HO, CA, AA⟩
  sl_exec_parts
  iapply (step_ag (sp inp) K c 2 4) $$ [HO CA AA]
  · isplitr; · iexact HR
    isplitr; · iexact HL
    isplitl [HO]; · iexact HO
    isplitl [CA]; · iexact CA
    iexact AA
  iintro ⟨HO, CA, AA⟩
  sl_exec_parts
  iapply (step_ag (sp inp) K c 3 3) $$ [HO CA AA]
  · isplitr; · iexact HR
    isplitr; · iexact HL
    isplitl [HO]; · iexact HO
    isplitl [CA]; · iexact CA
    iexact AA
  iintro ⟨HO, CA, AA⟩
  sl_exec_parts
  iapply (step_ag (sp inp) K c 4 2) $$ [HO CA AA]
  · isplitr; · iexact HR
    isplitr; · iexact HL
    isplitl [HO]; · iexact HO
    isplitl [CA]; · iexact CA
    iexact AA
  iintro ⟨HO, CA, AA⟩
  sl_exec_parts
  iapply (step_ag (sp inp) K c 5 1) $$ [HO CA AA]
  · isplitr; · iexact HR
    isplitr; · iexact HL
    isplitl [HO]; · iexact HO
    isplitl [CA]; · iexact CA
    iexact AA
  iintro ⟨HO, CA, AA⟩
  sl_exec_parts
  iapply (step_ag_last (sp inp) K c) $$ [HO CA AA]
  · isplitr; · iexact HR
    isplitr; · iexact HL
    isplitl [HO]; · iexact HO
    isplitl [CA]; · iexact CA
    iexact AA
  iintro ⟨HO, AA, HP⟩
  ihave B10 := (ag_join (sp inp) c) $$ [HAg HP]
  · isplitl [HAg]; · iexact HAg
    iexact HP
  sl_exec_parts
  conv => rhs; simp only [Prog.lift, Prog.bind_op, Prog.bind_ret, Prog.pure_eq_ret]
  rw [wp_guard]
  iapply (step_out (sp inp) K c 0 (p := k0_cond1 c = 1#1) (goes0 c)) $$ [HO G0 AO0]
  · isplitr; · iexact HR
    isplitl [HO]; · iexact HO
    isplitl [G0]; · iexact G0
    iexact AO0
  iintro ⟨HO, G0, AO0⟩
  conv => rhs; simp only [Prog.lift, Prog.bind_op, Prog.bind_ret, Prog.pure_eq_ret]
  rw [wp_guard]
  iapply (step_out (sp inp) K c 1 (p := k0_cond2 c = 1#1) (goes1 c)) $$ [HO G1 AO1]
  · isplitr; · iexact HR
    isplitl [HO]; · iexact HO
    isplitl [G1]; · iexact G1
    iexact AO1
  iintro ⟨HO, G1, AO1⟩
  conv => rhs; simp only [Prog.lift, Prog.bind_op, Prog.bind_ret, Prog.pure_eq_ret]
  rw [wp_guard]
  iapply (step_out (sp inp) K c 2 (p := k0_cond3 c = 1#1) (goes2 c)) $$ [HO G2 AO2]
  · isplitr; · iexact HR
    isplitl [HO]; · iexact HO
    isplitl [G2]; · iexact G2
    iexact AO2
  iintro ⟨HO, G2, AO2⟩
  conv => rhs; simp only [Prog.lift, Prog.bind_op, Prog.bind_ret, Prog.pure_eq_ret]
  rw [wp_guard]
  iapply (step_out (sp inp) K c 3 (p := k0_cond4 c = 1#1) (goes3 c)) $$ [HO G3 AO3]
  · isplitr; · iexact HR
    isplitl [HO]; · iexact HO
    isplitl [G3]; · iexact G3
    iexact AO3
  iintro ⟨HO, G3, AO3⟩
  conv => rhs; simp only [Prog.lift, Prog.bind_op, Prog.bind_ret, Prog.pure_eq_ret]
  rw [wp_guard]
  iapply (step_out (sp inp) K c 4 (p := k0_cond5 c = 1#1) (goes4 c)) $$ [HO G4 AO4]
  · isplitr; · iexact HR
    isplitl [HO]; · iexact HO
    isplitl [G4]; · iexact G4
    iexact AO4
  iintro ⟨HO, G4, AO4⟩
  conv => rhs; simp only [Prog.lift, Prog.bind_op, Prog.bind_ret, Prog.pure_eq_ret]
  rw [wp_guard]
  iapply (step_out (sp inp) K c 5 (p := k0_cond6 c = 1#1) (goes5 c)) $$ [HO G5 AO5]
  · isplitr; · iexact HR
    isplitl [HO]; · iexact HO
    isplitl [G5]; · iexact G5
    iexact AO5
  iintro ⟨HO, G5, AO5⟩
  sl_exec_parts
  conv => rhs; simp only [Prog.lift, Prog.bind_op, Prog.bind_ret, Prog.pure_eq_ret]
  rw [wp_guard]
  iapply (step_out (sp inp) K c 6 (p := k0_cond7 c = 1#1) (goes6 c)) $$ [HO G6 AO6]
  · isplitr; · iexact HR
    isplitl [HO]; · iexact HO
    isplitl [G6]; · iexact G6
    iexact AO6
  iintro ⟨HO, G6, AO6⟩
  conv => rhs; simp only [Prog.lift, Prog.bind_op, Prog.bind_ret, Prog.pure_eq_ret]
  rw [wp_guard]
  iapply (step_out (sp inp) K c 7 (p := k0_cond8 c = 1#1) (goes7 c)) $$ [HO G7 AO7]
  · isplitr; · iexact HR
    isplitl [HO]; · iexact HO
    isplitl [G7]; · iexact G7
    iexact AO7
  iintro ⟨HO, G7, AO7⟩
  iapply (step_agout (sp inp) K c 0) $$ [HO Z0 AG0]
  · isplitr; · iexact HR
    isplitl [HO]; · iexact HO
    isplitl [Z0]; · iexact Z0
    iexact AG0
  iintro ⟨HO, Z0, AG0⟩
  iapply (step_agout (sp inp) K c 1) $$ [HO Z1 AG1]
  · isplitr; · iexact HR
    isplitl [HO]; · iexact HO
    isplitl [Z1]; · iexact Z1
    iexact AG1
  iintro ⟨HO, Z1, AG1⟩
  sl_exec_parts
  iapply (step_agout (sp inp) K c 2) $$ [HO Z2 AG2]
  · isplitr; · iexact HR
    isplitl [HO]; · iexact HO
    isplitl [Z2]; · iexact Z2
    iexact AG2
  iintro ⟨HO, Z2, AG2⟩
  iapply (step_agout (sp inp) K c 3) $$ [HO Z3 AG3]
  · isplitr; · iexact HR
    isplitl [HO]; · iexact HO
    isplitl [Z3]; · iexact Z3
    iexact AG3
  iintro ⟨HO, Z3, AG3⟩
  iapply (step_agout (sp inp) K c 4) $$ [HO Z4 AG4]
  · isplitr; · iexact HR
    isplitl [HO]; · iexact HO
    isplitl [Z4]; · iexact Z4
    iexact AG4
  iintro ⟨HO, Z4, AG4⟩
  iapply (step_agout (sp inp) K c 5) $$ [HO Z5 AG5]
  · isplitr; · iexact HR
    isplitl [HO]; · iexact HO
    isplitl [Z5]; · iexact Z5
    iexact AG5
  iintro ⟨HO, Z5, AG5⟩
  iapply (step_agout (sp inp) K c 6) $$ [HO Z6 AG6]
  · isplitr; · iexact HR
    isplitl [HO]; · iexact HO
    isplitl [Z6]; · iexact Z6
    iexact AG6
  iintro ⟨HO, Z6, AG6⟩
  sl_exec_parts
  have hout : (Memref.whole cc0_stg3_0).view.writes (Elt F) f5 [⟨Rect.unit ![0, 0, 0] S1x256x1024.size inb_S1x256x1024_S1x256x1024_0_0_0, k0_pay133 (View.readAt (Elt F) agM.view (Rect.unit ![0, 0] S256x1024.size inb_S256x1024_S256x1024_0_0).toLoadRect (sp inp).all)⟩] = outv inp := by
    rw [out_load]; exact out_store f5 (outv inp)
  rw [hout]
  rw [wp_ret]
  imod (close_at (sp inp) K (c, 0) (kcell_bar c)) $$ [AB] with AB
  · isplitr; · iexact HR
    iexact AB
  imod (close_at (sp inp) K (c, 9) (kcell_rs c)) $$ [AR] with AR
  · isplitr; · iexact HR
    iexact AR
  imod (close_at (sp inp) K (c, 17) (kcell_ag c)) $$ [AA] with AA
  · isplitr; · iexact HR
    iexact AA
  imodintro
  unfold post
  rw [sep8, sep7, sep16]
  isplitl [B0]; · iexact B0
  isplitl [B1]; · iexact B1
  isplitl [B4]; · iexact B4
  isplitl [B2]; · iexact B2
  isplitl [B3]; · iexact B3
  isplitl [B5]; · iexact B5
  isplitl [B6]; · iexists _; iexact B6
  isplitl [G0 G1 G2 G3 G4 G5 G6 G7]
  · iapply (stage_join c)
    rw [sep8]
    isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  isplitl [B8]; · iexists _; iexact B8
  isplitl [HZ Z0 Z1 Z2 Z3 Z4 Z5 Z6]
  · iexists (sp inp).own c
    rw [own_eq c ((sp inp).own c), sep7]
    isplitl [HZ]; · iexact HZ
    isplitl [Z0]; · iexact Z0
    isplitl [Z1]; · iexact Z1
    isplitl [Z2]; · iexact Z2
    isplitl [Z3]; · iexact Z3
    isplitl [Z4]; · iexact Z4
    isplitl [Z5]; · iexact Z5
    iexact Z6
  isplitl [B10]; · iexists _; iexact B10
  isplitl [B11]; · iexists _; iexact B11
  isplitl [B12]; · iexists _; iexact B12
  isplitl [AB]; · iexact AB
  isplitl [AR]; · iexact AR
  isplitl [AA]; · iexact AA
  isplitl [AO0 AO1 AO2 AO3 AO4 AO5 AO6 AO7]
  · isplitl [AO0]; · iexact AO0
    isplitl [AO1]; · iexact AO1
    isplitl [AO2]; · iexact AO2
    isplitl [AO3]; · iexact AO3
    isplitl [AO4]; · iexact AO4
    isplitl [AO5]; · iexact AO5
    isplitl [AO6]; · iexact AO6
    iexact AO7
  isplitl [AG0 AG1 AG2 AG3 AG4 AG5 AG6]
  · isplitl [AG0]; · iexact AG0
    isplitl [AG1]; · iexact AG1
    isplitl [AG2]; · iexact AG2
    isplitl [AG3]; · iexact AG3
    isplitl [AG4]; · iexact AG4
    isplitl [AG5]; · iexact AG5
    iexact AG6
  isplitl [S0 S1 S2 S3 S4 S5 S6 S7 S8 S9 S10 S11 S12 S13 S14 S15]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  iexact HO

end Cert.KernelIdeal.Ring

end
-- ==== Proof.Launch.lean ====
/-
The launch: from any memory, with every counter at zero, all devices' programs run to the end; what the memory then holds.
-/
module

public import proofs.«01_k».proof.Proof.Deal
public import proofs.«01_k».proof.Proof.Owes
public import proofs.«01_k».proof.Proof.Run
public import Idealize.ShloMosaic.Lib.Pipeline.Value
public import Idealize.ShloMosaic.Lib.Pipeline.CollectiveSegs
public import Idealize.ShloMosaic.Lib.Quiescent

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

theorem cfg0_N : cfg0.N = 1 := N_0
def t₀ : Fin cfg0.N := ⟨0, by rw [cfg0_N]; decide⟩
theorem fin_N (t : Fin cfg0.N) : t = t₀ := by
  obtain ⟨t, ht⟩ := t; have := cfg0_N; simp only [t₀, Fin.mk.injEq]; omega

/-- What the body finds staged: the three whole arrays. -/
def xstg (c : Dev nD) : (cc0_stg0_0 : Ref sig .tc).ty.Contents (Elt F) :=
  (win0_0.blk (t₀ : Fin cfg0.N)).view.read (Elt F) ((s₀ m ρ).mem ((c : Thread nD τ).loc main_arg0))
def wqstg (c : Dev nD) : (cc0_stg1_0 : Ref sig .tc).ty.Contents (Elt F) :=
  (win0_1.blk (t₀ : Fin cfg0.N)).view.read (Elt F) ((s₀ m ρ).mem ((c : Thread nD τ).loc main_arg1))
def wostg (c : Dev nD) : (cc0_stg2_0 : Ref sig .tc).ty.Contents (Elt F) :=
  (win0_2.blk (t₀ : Fin cfg0.N)).view.read (Elt F) ((s₀ m ρ).mem ((c : Thread nD τ).loc main_arg4))
/-- What device `c` computes with. -/
def inp (c : Dev nD) : Ins F :=
  ⟨xstg m ρ c, wqstg m ρ c, m ((c : Thread nD τ).loc main_arg2), m ((c : Thread nD τ).loc main_arg3), wostg m ρ c⟩

/-! ## What holds before and after the one point -/

/-- The two arguments that are not staged. -/
def argPts (c : Dev nD) : sProp 𝕄 :=
  iprop(((c : Thread nD τ).loc main_arg2 ↦{fullShare} m ((c : Thread nD τ).loc main_arg2)) ∗ ((c : Thread nD τ).loc main_arg3 ↦{fullShare} m ((c : Thread nD τ).loc main_arg3)))

def start (c : Dev nD) : sProp 𝕄 :=
  iprop(ghost (sp (inp m ρ)) c ∗ cred (tallyAt (barCell c) () 7) ∗ cred (tallyAt (rsCell c) () (7 * NR)) ∗ cred (tallyAt (agCell c) () (7 * NA))
    ∗ levAts L lv ∗ argPts m c)

/-- The kernel's own buffers, at some contents. -/
def bufs (c : Dev nD) : sProp 𝕄 :=
  iprop((∃ f, pt (F := F) c partM f) ∗ (∃ f, pt (F := F) c stageM f) ∗ (∃ f, pt (F := F) c recvM f) ∗ (∃ f, pt (F := F) c agsM f) ∗ (∃ f, pt (F := F) c agM f)
    ∗ (∃ f, pt (F := F) c (Memref.whole cc0_scratch5) f) ∗ (∃ f, pt (F := F) c (Memref.whole cc0_scratch6) f))

def Φ₀ (c : Dev nD) : sProp 𝕄 := iprop(start m ρ c ∗ bufs c)
def Φ₁ (c : Dev nD) : sProp 𝕄 :=
  iprop(bufs c ∗ argPts m c ∗ bigSep Finset.univ (fun k : Fin 18 => semVal (kcell (c, k)) 0) ∗ bigSep Finset.univ (fun i : Fin 16 => semVal (loc c i) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => outv (inp m ρ)
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-! ## The body -/

section Body

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The places of a device's receive buffer and result, handed to those who write there; the own rows stay. -/
theorem places (c : Dev nD) (f : Bf (F := F) c recvM) (g : Bf (F := F) c agM) :
    iprop(pt c recvM f ∗ pt c agM g) ⊢ iprop(bigSep Finset.univ (fun k : Fin 7 => barPay (F := F) (pr c k) c) ∗ agAny (F := F) c c) := by
  have e1 : bigSep Finset.univ (fun k : Fin 7 => recvAny (F := F) c k) = bigSep Finset.univ (fun k : Fin 7 => recvAny (F := F) c (slot (pr c k) c)) := by
    exact (congrArg (fun S => bigSep S fun k : Fin 7 => recvAny (F := F) c k) (slots_to c)).trans ((bigSep_image_of_injOn (slot_inj c) _).trans (by_distance c fun s => recvAny (F := F) c (slot s c)))
  have e2 : bigSep Finset.univ (fun d : Dev nD => agAny (F := F) c d) = iprop(agAny (F := F) c c ∗ bigSep Finset.univ (fun k : Fin 7 => agAny (F := F) c (pr c k))) := by
    rw [bigSep_erase (i := c) (Finset.mem_univ c), by_distance]; rfl
  unfold barPay
  rw [bigSep_sep']
  iintro ⟨H1, H2⟩
  ihave H1 := ((recv_split c f).trans (Entails.of_eq e1)) $$ H1
  ihave H2 := ((ag_split c g).trans (Entails.of_eq e2)) $$ H2
  icases H2 with ⟨H2, H3⟩
  isplitr [H2]
  · isplitl [H1] <;> iassumption
  iexact H2

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xstg m ρ c) ∗ stg c cc0_stg1_0 (wqstg m ρ c) ∗ stg c cc0_stg2_0 (wostg m ρ c)
    ∗ stg c cc0_stg3_0 (outv (inp m ρ)))

/-- What the pipeline hands over is what the body's run begins with. -/
theorem body_begins (c : Dev nD) : bodyPre m ρ c
    ⊢ iprop(∃ K, recs (sp (inp m ρ)) K ∗ levAts L lv ∗ preX (F := F) c
        ∗ preB c (xstg m ρ c) (wqstg m ρ c) (wostg m ρ c) (m ((c : Thread nD τ).loc main_arg2)) (m ((c : Thread nD τ).loc main_arg3))) := by
  unfold bodyPre Φ₀ start ghost mine uses argPts bufs
  iintro ⟨⟨⟨⟨%K, HR, Hat, ⟨HT1, HT2, HT3⟩, Hl⟩, C1, C2, C3, HL, P2, P3⟩, ⟨%f1, B1⟩, ⟨%f2, B2⟩, ⟨%f3, B3⟩, ⟨%f4, B4⟩, ⟨%f5, B5⟩, B6, B7⟩, Ho,
    ⟨%d0, %g0, %h0, G0⟩, ⟨%d1, %g1, %h1, G1⟩, ⟨%d2, %g2, %h2, G2⟩, ⟨%d3, %g3, %h3, G3⟩⟩
  have e0 : g0 = xstg m ρ c := by rw [h0]; unfold Dat.before; rw [if_pos (fetch0_0 t₀)]; rfl
  have e1 : g1 = wqstg m ρ c := by rw [h1]; unfold Dat.before; rw [if_pos (fetch0_1 t₀)]; rfl
  have e2 : g2 = wostg m ρ c := by rw [h2]; unfold Dat.before; rw [if_pos (fetch0_2 t₀)]; rfl
  subst e0 e1 e2
  unfold Dat.owesAt Pipeline.owesWithin
  icases Ho with ⟨%W, %hW, HO⟩
  ihave Hat := (sort18 (F := F) c fun g => atPos ER g 0 ∅ 0) $$ Hat
  icases Hat with ⟨A1, A2, A3, A4, A5⟩
  ihave HP := (places c f3 f5) $$ [B3 B5]
  · isplitl [B3]; · iexact B3
    iexact B5
  icases HP with ⟨HP, HA⟩
  ihave B2 := (stage_split c f2) $$ B2
  iexists K
  isplitl [HR]; · iexact HR
  isplitl [HL]; · iexact HL
  unfold preX preB noteRes
  rw [bigSep_sep']
  isplitl [HT1 HT2 HT3 HP HO C1 C2 C3 A1 A2 A3 A4 A5]
  · isplitl [HT1 HP]
    · isplitl [HT1] <;> iassumption
    isplitl [HT2]; · iexact HT2
    isplitl [HT3]; · iexact HT3
    isplitl [HO]; · iexists W; iexact HO
    isplitl [C1]; · iexact C1
    isplitl [C2]; · iexact C2
    isplitl [C3]; · iexact C3
    isplitl [A1]; · iexact A1
    isplitl [A2]; · iexact A2
    isplitl [A3]; · iexact A3
    isplitl [A4]; · iexact A4
    iexact A5
  isplitl [G0]; · iexact G0
  isplitl [G1]; · iexact G1
  isplitl [G2]; · iexact G2
  isplitl [P2]; · iexact P2
  isplitl [P3]; · iexact P3
  isplitl [G3]; · iexists g3; iexact G3
  isplitl [B1]; · iexists f1; iexact B1
  isplitl [B4]; · iexists f4; iexact B4
  isplitl [B6]; · iexact B6
  isplitl [B7]; · iexact B7
  isplitl [B2]; · iexact B2
  isplitl [HA]; · iexact HA
  iexact Hl

/-- What the run leaves is what the pipeline expects. -/
theorem body_ends (c : Dev nD) :
    post (inp m ρ) c (xstg m ρ c) (wqstg m ρ c) (wostg m ρ c) (m ((c : Thread nD τ).loc main_arg2)) (m ((c : Thread nD τ).loc main_arg3)) ⊢ bodyPost m ρ c := by
  unfold post bodyPost Φ₁ bufs argPts Dat.owesAt Pipeline.owesWithin
  iintro ⟨G0, G1, G2, P2, P3, G3, B1, B2, B3, B4, B5, B6, B7, S1, S2, S3, S4, S5, Hl, ⟨%W, HO⟩⟩
  ihave HS := (unsort18 (F := F) c fun g => semVal g 0) $$ [S1 S2 S3 S4 S5]
  · isplitl [S1]; · iexact S1
    isplitl [S2]; · iexact S2
    isplitl [S3]; · iexact S3
    isplitl [S4]; · iexact S4
    iexact S5
  isplitr [HO G0 G1 G2 G3]
  · isplitl [B1 B2 B3 B4 B5 B6 B7]
    · isplitl [B1]; · iexact B1
      isplitl [B2]; · iexact B2
      isplitl [B3]; · iexact B3
      isplitl [B4]; · iexact B4
      isplitl [B5]; · iexact B5
      isplitl [B6]; · iexact B6
      iexact B7
    isplitl [P2 P3]
    · isplitl [P2]; · iexact P2
      iexact P3
    isplitl [HS]; · iexact HS
    iexact Hl
  isplitl [HO]
  · iexists W
    isplitr; · ipureintro; exact fun _ _ => Or.inl trivial
    iexact HO
  isplitl [G0]
  · iexists _; isplitr; · (ipureintro; rfl)
    iexact G0
  isplitl [G1]
  · iexists _; isplitr; · (ipureintro; rfl)
    iexact G1
  isplitl [G2]
  · iexists _; isplitr; · (ipureintro; rfl)
    iexact G2
  iexists _; isplitr; · (ipureintro; rfl)
  iexact G3

theorem body_runs (c : Dev nD) : bodyPre m ρ c ⊢ wp frame (wpE (defs₀ (F := F)) 𝒱₀ c none) Set.univ (prog (F := F)) (fun _ => bodyPost m ρ c) := by
  have h : ∀ K, iprop(recs (sp (inp m ρ)) K ∗ levAts L lv ∗ preX (F := F) c
        ∗ preB c (xstg m ρ c) (wqstg m ρ c) (wostg m ρ c) (m ((c : Thread nD τ).loc main_arg2)) (m ((c : Thread nD τ).loc main_arg3)))
      ⊢ wp frame (wpE (defs₀ (F := F)) 𝒱₀ c none) Set.univ (prog (F := F)) (fun _ => bodyPost m ρ c) := fun K =>
    (run (inp m ρ) K c _ _ _ _ _ rfl).trans ((wp frame (wpE (defs₀ (F := F)) 𝒱₀ c none) Set.univ (prog (F := F))).mono fun _ => body_ends m ρ c)
  exact (body_begins m ρ c).trans (exists_elim h)

set_option maxRecDepth 40000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (prog (F := F)) (fun _ => bodyPost m ρ c)
  exact body_runs m ρ c

end Body

/-! ## The launch -/

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf ringCells ringToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op ((b, (1 : Counters)) : UB × Counters))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost (sp (inp m ρ)) c)
      ⊢ |={Set.univ}=> iprop(start m ρ c ∗ emp) := by
  rw [Pipeline.unscopedRestP_none, unscopedRest0_eq]
  iintro ⟨HA, Hlev, Hcr, -, HG⟩
  ihave Hc := (creds (F := F) c) $$ Hcr
  icases Hc with ⟨H1, H2, H3⟩
  imodintro
  unfold start argPts
  isplitl
  · isplitl [HG]; · iexact HG
    isplitl [H1]; · iexact H1
    isplitl [H2]; · iexact H2
    isplitl [H3]; · iexact H3
    isplitl [Hlev]; · iexact Hlev
    iexact HA
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(iprop(unscopedSems0 c ∗ argPts m c) ∗ Pipeline.ownSems0 osem c ∗ Pipeline.scopedRest cfg0.spec c) := by
  rw [show (dats m ρ 0 c).Φ (Fin.last cfg0.N) = Φ₁ m c from rfl, scopedRest0_eq]
  unfold Φ₁ bufs
  rw [← sems0_eq]
  iintro ⟨Hb, Ha, Ho, Hu⟩
  isplitl [Ha Hu]
  · isplitl [Hu] <;> iassumption
  isplitl [Ho]; · iexact Ho
  iexact Hb

theorem waits (c : Dev nD) : (levAts L lv : sProp 𝕄) ⊢ Pipeline.cellsWaits cfgs (dats m ρ) () 0 c :=
  Pipeline.cellsWaits_intro cfgs (dats m ρ) () 0 c fun w s t =>
    (show (levAts L lv : sProp 𝕄) ⊢ _ from by
      rcases t with ⟨_ | _, ht⟩
      · exact mayWait c _ (above_bar c 7) (by fin_cases w <;> fin_cases s <;> decide)
      · exact mayWait c _ (above_zero 0) (by fin_cases w <;> fin_cases s <;> decide))

/-! ### The run -/

def finalA (c : Dev nD) (w : Fin cfg0.W) : Buf (Elt F) ((cfg0.win w).arr.view.loc (c : Thread nD τ)) := (dats m ρ 0 c).arrAt w cfg0.N

/-- What a final memory holds: the windows' arrays, the two arguments that are not staged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

/-- The two arguments read off the final memory. -/
theorem args_read (c : Dev nD) (s' : Phys nD τ sig (Elt F)) : (iprop(argPts m c ∗ SI s') : sProp 𝕄)
    ⊢ iprop(⌜s'.mem.mem ((c : Thread nD τ).loc main_arg2) = m ((c : Thread nD τ).loc main_arg2) ∧ s'.mem.mem ((c : Thread nD τ).loc main_arg3) = m ((c : Thread nD τ).loc main_arg3)⌝ ∗ SI s') := by
  unfold argPts
  iintro ⟨⟨H2, H3⟩, HSI⟩
  icombine HSI H2 gives %h2
  icombine HSI H3 gives %h3
  isplitr
  · ipureintro; exact ⟨Buf.eq_of_forall_mem_univ h2, Buf.eq_of_forall_mem_univ h3⟩
  iexact HSI

set_option maxRecDepth 8000 in
/-- From any memory with zero counters every weakly fair execution ends, with the arrays at the computed contents, the
arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (sp (inp m ρ))) (G' := ghost (sp (inp m ρ))) (u₀ := u₀)
    (hu₀ := by
      unfold u₀
      iintro Hu
      ihave H := (ownU_split _ _) $$ Hu
      icases H with ⟨HP, HX⟩
      imod (deal (sp (inp m ρ))) $$ HX with HG
      imodintro
      isplitl [HP] <;> iassumption)
    (hglob := glob (sp (inp m ρ)))
    (hA := fun _ _ => rfl) (hpf := fun _ k => k.elim0)
    (X := start m ρ) (Y := fun c => iprop(unscopedSems0 c ∗ argPts m c)) (Z := fun _ => iprop(emp))
    (hX := start_intro m ρ) (hin := phi0_intro m ρ) (hout := phi1_exit m ρ)
    (QY := fun c s => (s.mem ((c : Thread nD τ).loc main_arg2) = m ((c : Thread nD τ).loc main_arg2) ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      iintro ⟨⟨Hu, Ha⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hu, HSI⟩
      · isplitl [Hu] <;> iassumption
      imodintro
      isplitr; · ipureintro; exact ⟨ha, hu⟩
      iexact HSI)
    (hQ := fun _ h hs => ⟨fun c => ⟨(h c).1, (h c).2.2.1⟩, sem_eq_zero hs fun c => (h c).2.2.2⟩)

/-! ### The windows are the whole arrays -/

theorem xstg_eq (c : Dev nD) : xstg m ρ c = m ((c : Thread nD τ).loc main_arg0) := by
  unfold xstg
  funext y
  refine congrArg (m ((c : Thread nD τ).loc main_arg0)) (funext fun a => Fin.ext ?_)
  have e : ∀ a, win0_0.index (t₀ : Fin cfg0.N) a * win0_0.size a = 0 := by decide +kernel
  refine (Pipeline.Window.rect_emb_val win0_0 t₀ y a).trans ?_
  rw [e a, Nat.zero_add]

theorem wqstg_eq (c : Dev nD) : wqstg m ρ c = m ((c : Thread nD τ).loc main_arg1) := by
  unfold wqstg
  funext y
  refine congrArg (m ((c : Thread nD τ).loc main_arg1)) (funext fun a => Fin.ext ?_)
  have e : ∀ a, win0_1.index (t₀ : Fin cfg0.N) a * win0_1.size a = 0 := by decide +kernel
  refine (Pipeline.Window.rect_emb_val win0_1 t₀ y a).trans ?_
  rw [e a, Nat.zero_add]

theorem wostg_eq (c : Dev nD) : wostg m ρ c = m ((c : Thread nD τ).loc main_arg4) := by
  unfold wostg
  funext y
  refine congrArg (m ((c : Thread nD τ).loc main_arg4)) (funext fun a => Fin.ext ?_)
  have e : ∀ a, win0_2.index (t₀ : Fin cfg0.N) a * win0_2.size a = 0 := by decide +kernel
  refine (Pipeline.Window.rect_emb_val win0_2 t₀ y a).trans ?_
  rw [e a, Nat.zero_add]

/-- What device `c` is launched with. -/
def ins (c : Dev nD) : Ins F :=
  ⟨m ((c : Thread nD τ).loc main_arg0), m ((c : Thread nD τ).loc main_arg1), m ((c : Thread nD τ).loc main_arg2), m ((c : Thread nD τ).loc main_arg3),
    m ((c : Thread nD τ).loc main_arg4)⟩

theorem inp_eq : inp m ρ = ins m := funext fun c => by
  unfold inp ins; rw [xstg_eq, wqstg_eq, wostg_eq]

theorem flushed_eq (c : Dev nD) (t : Fin cfg0.N) :
    (dats m ρ 0 c).flushed 3 t = ((cfg0.win 3).blk t).view.read (Elt F) (outv (inp m ρ)) := by
  obtain rfl := fin_N t
  unfold Pipeline.Dat.flushed
  rw [show (dats m ρ 0 c).after 3 t₀ = outv (inp m ρ) from rfl]
  generalize outv (inp m ρ) = X
  funext y
  have e : ∀ a, win0_3.index (t₀ : Fin cfg0.N) a * win0_3.size a = 0 := by decide +kernel
  refine congrArg X (funext fun a => Fin.ext ?_)
  refine Eq.trans ?_ (Pipeline.Window.rect_emb_val win0_3 t₀ y a).symm
  rw [e a, Nat.zero_add]

theorem cover (i : S1x256x1024.Idx) : ∃ t : Fin cfg0.N, (cfg0.win 3).flush t = true ∧ i ∈ ((cfg0.win 3).blk t).view.set := by
  refine ⟨t₀, flush0_3 _, ?_⟩
  show i ∈ ((View.whole main_v1).slice (win0_3.rect t₀)).set
  rw [View.set_slice_whole, Rect.mem_set_unit]
  have e : ∀ a : Fin 3, win0_3.index (t₀ : Fin cfg0.N) a * win0_3.size a = 0 ∧ win0_3.xsize (grid0.coords t₀) a = S1x256x1024.size a := by decide +kernel
  intro a
  show win0_3.index t₀ a * win0_3.size a ≤ (i a : Nat) ∧ (i a : Nat) < win0_3.index t₀ a * win0_3.size a + win0_3.xsize (grid0.coords t₀) a
  rw [(e a).1, (e a).2]
  have := (i a).isLt
  omega

theorem finalA_out (c : Dev nD) : finalA m ρ c 3 = outv (ins m) :=
  ((dats m ρ 0 c).arrAt_eq_of_cover 3 (outv (inp m ρ)) (fun t _ => flushed_eq m ρ c t) cover).trans (by rw [inp_eq])

/-- The kernel's run, in the arrays it takes and returns. -/
theorem run_values : θ_run defs (onTc (τ := τ) (main (F := F))) ⟨m, fun _ => 0, ρ⟩ (fun r => (∀ c : Dev nD,
      r.2.mem ((c.tc : Thread nD τ).loc main_v1) = outv (ins m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 3).trans (finalA_out m ρ c),
    ((h.1 c).1 0).trans ((dats m ρ 0 c).arrAt_in 0 rfl _), ((h.1 c).1 1).trans ((dats m ρ 0 c).arrAt_in 1 rfl _),
    (h.1 c).2.1, (h.1 c).2.2, ((h.1 c).1 2).trans ((dats m ρ 0 c).arrAt_in 2 rfl _)⟩, h.2⟩) (run_main m ρ)

end Cert.KernelIdeal.Ring

end
-- ==== Proof.KerCat.lean ====
/-
The kernel's keys and values at an index: the rows a row group attends, of one head, are rows of the device's argument.
-/
module

public import proofs.«01_k».proof.Proof.Chunks
public import Idealize.ShloMosaic.Lib.Pointwise
public import Idealize.ShloMosaic.Lib.Pipeline.Value

@[expose] public section

noncomputable section

namespace Cert.KernelIdeal.Ring

open Cert.KernelIdeal Cert.KernelIdeal.Gen
open Idealize.ShloMosaic Idealize.ShloMosaic.TcCoe

variable {F : FTy → Type} [FloatOps F]

section
variable (M : Memref sig .tc .hbm S1x4096x8x128 .f32) (v : View sig .tc .vmem S4096x1024 .f32) (f : M.view.ty.Contents (Elt F))

theorem head_casts : S1x4096x1x128.ShapeCasts S4096x128 := by decide

theorem head_eq (h : Fin 8) : head M f h = shapeCast S4096x128 (M.view.readAt (Elt F) (Rect.unit (s := S1x4096x8x128) ![0, 0, h.val, 0] S1x4096x1x128.size (head_inb h)).toLoadRect f) head_casts := rfl

omit [FloatOps F] in
theorem cast_head (X : S1x4096x1x128.Idx → Elt F .f32) (r : Fin 4096) (c : Fin 128) : shapeCast S4096x128 X head_casts (ix2 r c) = X (ix4 0 r 0 c) := by pointwise

theorem head_at (h : Fin 8) (r : Fin 4096) (c : Fin 128) : head M f h (ix2 r c) = M.view.read (Elt F) f (ix4 0 r h c) := by
  rw [head_eq]
  generalize hX : M.view.readAt (Elt F) (Rect.unit (s := S1x4096x8x128) ![0, 0, h.val, 0] S1x4096x1x128.size (head_inb h)).toLoadRect f = X
  have : shapeCast S4096x128 X head_casts (ix2 r c) = X (ix4 0 r 0 c) := cast_head X r c
  rw [this, ← hX]
  show M.view.read (Elt F) f ((Rect.unit (s := S1x4096x8x128) ![0, 0, h.val, 0] S1x4096x1x128.size (head_inb h)).toLoadRect.idx (ix4 0 r 0 c)) = _
  congr 1
  funext a
  match a with
  | ⟨0, _⟩ => rfl
  | ⟨1, _⟩ => exact Fin.ext (by show 0 + 1 * r.val = r.val; omega)
  | ⟨2, _⟩ => exact Fin.ext (by show h.val + 1 * 0 = h.val; omega)
  | ⟨3, _⟩ => exact Fin.ext (by show 0 + 1 * c.val = c.val; omega)

/-- The argument as a matrix: head after head. -/
def mat (z : S4096x1024.Idx) : Elt F .f32 :=
  M.view.read (Elt F) f (ix4 0 ⟨(z 0).val, (z 0).isLt⟩ ⟨(z 1).val / 128, by have h : (z 1).val < 1024 := (z 1).isLt; omega⟩ ⟨(z 1).val % 128, Nat.mod_lt _ (by decide)⟩)

theorem headPiece_fits (h : Fin 8) (x : (headPiece M f h).1.shape.Idx) : (headPiece M f h).2 x = mat M f ((headPiece M f h).1.emb x) := by
  obtain ⟨r, c, rfl⟩ : ∃ (r : Fin 4096) (c : Fin 128), x = ix2 r c := ⟨x 0, x 1, eq_ix2 x⟩
  show head M f h (ix2 r c) = _
  rw [head_at]
  unfold mat
  have e0 : ((headPiece M f h).1.emb (ix2 r c) 0).val = 0 + 1 * r.val := rfl
  have e1 : ((headPiece M f h).1.emb (ix2 r c) 1).val = 128 * h.val + 1 * c.val := rfl
  have hc := c.isLt
  congr 1
  congr 1
  · exact Fin.ext (by show r.val = _; rw [e0]; omega)
  · exact Fin.ext (by show h.val = _ / 128; omega)
  · exact Fin.ext (by show c.val = _ % 128; omega)

theorem headPieces_cover (z : S4096x1024.Idx) : ∃ p ∈ headPieces M f, z ∈ p.1.set := by
  have h1 : (z 1).val < 1024 := (z 1).isLt
  have h0 : (z 0).val < 4096 := (z 0).isLt
  obtain ⟨h, hh⟩ : ∃ h : Fin 8, (z 1).val / 128 = h.val := ⟨⟨(z 1).val / 128, by omega⟩, rfl⟩
  refine ⟨headPiece M f h, by unfold headPieces; fin_cases h <;> simp, (Rect.mem_set_unit (inb := cols_inb h)).mpr fun i => ?_⟩
  match i with
  | ⟨0, _⟩ => show 0 ≤ (z 0).val ∧ (z 0).val < 0 + 4096; omega
  | ⟨1, _⟩ => show 128 * h.val ≤ (z 1).val ∧ (z 1).val < 128 * h.val + 128; omega

theorem headPieces_fit : ∀ p ∈ headPieces M f, ∀ x : p.1.shape.Idx, p.2 x = mat M f (p.1.emb x) := by
  intro p hp
  simp only [headPieces, List.mem_cons, List.not_mem_nil, or_false] at hp
  rcases hp with rfl | rfl | rfl | rfl | rfl | rfl | rfl | rfl <;> exact headPiece_fits M f _

theorem blk_at (a : Fin 4) (b : Fin 2) (g : Fin 16) (y0 : Fin 64) (y1 : Fin 512) :
    blk M v f a b g (ix2 y0 y1) = mat M f (ix2 ⟨64 * a.val + 256 * g.val + y0.val, by omega⟩ ⟨512 * b.val + y1.val, by omega⟩) := by
  unfold blk View.readCov
  show v.read (Elt F) (v.writes (Elt F) _ (headPieces M f)) ((Rect.unit (s := S4096x1024) ![64 * a.val + 256 * g.val, 512 * b.val] S64x512.size (blk_inb a b g)).toLoadRect.idx (ix2 y0 y1)) = _
  rw [View.read_writes_apply_of_pieces (v := v) (f := v.junk) (mat M f) (headPieces M f) (headPieces_fit M f) _ (headPieces_cover M f _)]
  congr 1
  funext i
  match i with
  | ⟨0, _⟩ => exact Fin.ext (by show 64 * a.val + 256 * g.val + 1 * y0.val = 64 * a.val + 256 * g.val + y0.val; omega)
  | ⟨1, _⟩ => exact Fin.ext (by show 512 * b.val + 1 * y1.val = 512 * b.val + y1.val; omega)

theorem sixteen : ∀ g : Fin 16, (((List.replicate 16 S64x512).take g.val).map fun s : Shape => if h : s.rank = S1024x512.rank then s.size ((0 : Fin 2).cast h.symm) else 0).sum = 64 * g.val := by
  decide

omit [FloatOps F] in
theorem stack_at (B : Fin 16 → S64x512.Idx → Elt F .f32) (hc) (g : Fin 16) (y0 : Fin 64) (y1 : Fin 512) :
    concatenate S1024x512 0 [⟨S64x512, B 0⟩, ⟨S64x512, B 1⟩, ⟨S64x512, B 2⟩, ⟨S64x512, B 3⟩, ⟨S64x512, B 4⟩, ⟨S64x512, B 5⟩, ⟨S64x512, B 6⟩, ⟨S64x512, B 7⟩,
      ⟨S64x512, B 8⟩, ⟨S64x512, B 9⟩, ⟨S64x512, B 10⟩, ⟨S64x512, B 11⟩, ⟨S64x512, B 12⟩, ⟨S64x512, B 13⟩, ⟨S64x512, B 14⟩, ⟨S64x512, B 15⟩] hc
      (ix2 ⟨64 * g.val + y0.val, by omega⟩ y1) = B g (ix2 y0 y1) := by
  refine concatenate_apply_piece (t := S1024x512) (0 : Fin 2) _ hc _ g.val (by show g.val < 16; exact g.isLt) S64x512 (B g) (by fin_cases g <;> rfl) rfl (64 * g.val)
    (by rw [List.map_take]; exact sixteen g) (ix2 y0 y1) ?_ rfl
  intro c hc
  match c with
  | ⟨0, _⟩ => exact absurd rfl hc
  | ⟨1, _⟩ => rfl

theorem cat_piece (a : Fin 4) (b : Fin 2) (g : Fin 16) (y0 : Fin 64) (y1 : Fin 512) :
    cat M v f a b (ix2 ⟨64 * g.val + y0.val, by omega⟩ y1) = blk M v f a b g (ix2 y0 y1) :=
  stack_at (blk M v f a b) _ g y0 y1

theorem cat_at (a : Fin 4) (b : Fin 2) (t : Fin 1024) (y1 : Fin 512) :
    cat M v f a b (ix2 t y1) = mat M f (ix2 ⟨64 * a.val + 256 * (t.val / 64) + t.val % 64, by omega⟩ ⟨512 * b.val + y1.val, by omega⟩) := by
  have ht := t.isLt
  have := cat_piece M v f a b ⟨t.val / 64, by omega⟩ ⟨t.val % 64, Nat.mod_lt _ (by decide)⟩ y1
  rw [blk_at] at this
  rw [← this]
  congr 2
  exact Fin.ext (by show t.val = 64 * (t.val / 64) + t.val % 64; omega)

end

end Cert.KernelIdeal.Ring

end
-- ==== Proof.KerVal.lean ====
/-
The kernel's values at an index, over the extended reals.
-/
module

public import proofs.«01_k».proof.Proof.KerCat
public import Idealize.ShloMosaic.Lib.VecWindow
public import Idealize.ShloMosaic.Lib.Pointwise.IndexVar

@[expose] public section

noncomputable section

namespace Cert.KernelIdeal.Ring

open Cert.KernelIdeal Cert.KernelIdeal.Gen
open Idealize.ShloMosaic Idealize.ShloMosaic.TcCoe

section Inputs
variable (i : Ins Ideal)

/-- A device's inputs as arrays. -/
def xA : FVec Ideal S1x256x1024 .f32 := i.x
def wqA : FVec Ideal S1024x1024 .f32 := i.wq
def kA : FVec Ideal S1x4096x8x128 .f32 := i.kx
def vA : FVec Ideal S1x4096x8x128 .f32 := i.vx
def woA : FVec Ideal S1024x1024 .f32 := i.wo

theorem kc_at (a : Fin 4) (b : Fin 2) (e : Fin 4) (t : Fin 1024) (d : Fin 128) : kc i a b (ix2 t ⟨128 * e.val + d.val, by omega⟩)
    = kA i (ix4 0 ⟨64 * a.val + 256 * (t.val / 64) + t.val % 64, by omega⟩ ⟨4 * b.val + e.val, by omega⟩ d) := by
  unfold kc
  rw [cat_at]
  show i.kx (ix4 0 _ _ _) = i.kx (ix4 0 _ _ _)
  congr 1
  congr 1
  · exact Fin.ext (by show (512 * b.val + (128 * e.val + d.val)) / 128 = 4 * b.val + e.val; omega)
  · exact Fin.ext (by show (512 * b.val + (128 * e.val + d.val)) % 128 = d.val; omega)

theorem vc_at (a : Fin 4) (b : Fin 2) (e : Fin 4) (t : Fin 1024) (d : Fin 128) : vc i a b (ix2 t ⟨128 * e.val + d.val, by omega⟩)
    = vA i (ix4 0 ⟨64 * a.val + 256 * (t.val / 64) + t.val % 64, by omega⟩ ⟨4 * b.val + e.val, by omega⟩ d) := by
  unfold vc
  rw [cat_at]
  show i.vx (ix4 0 _ _ _) = i.vx (ix4 0 _ _ _)
  congr 1
  congr 1
  · exact Fin.ext (by show (512 * b.val + (128 * e.val + d.val)) / 128 = 4 * b.val + e.val; omega)
  · exact Fin.ext (by show (512 * b.val + (128 * e.val + d.val)) % 128 = d.val; omega)

theorem qv_at (r : Fin 256) (c : Fin 1024) : qv i (ix2 r c) = (∑ p : Fin 1024, xA i (ix3 0 r p) * wqA i (ix2 p c)) * Ideal.ofBits .f32 0x3DB504F3#32 := by
  have e : qv i = k0_pay2 (k0_pay1 (xA i) (wqA i)) (Ideal.ofBits .f32 0x3DB504F3#32) :=
    congrArg₂ (fun x w => k0_pay2 (k0_pay1 x w) (Ideal.ofBits .f32 0x3DB504F3#32)) (View.readAt_full (Memref.whole cc0_stg0_0).view i.x inb_S1x256x1024_S1x256x1024_0_0_0)
      (View.readAt_full (Memref.whole cc0_stg1_0).view i.wq inb_S1024x1024_S1024x1024_0_0)
  rw [e]
  generalize xA i = x
  generalize wqA i = w
  unfold k0_pay1 k0_pay2
  pointwise

theorem wov_eq : wov i = woA i :=
  View.readAt_full (Memref.whole cc0_stg2_0).view i.wo inb_S1024x1024_S1024x1024_0_0
end Inputs

section Att
variable (q : FVec Ideal S256x1024 .f32) (k v : Fin 4 → Fin 2 → FVec Ideal S1024x512 .f32)

theorem q_at (a : Fin 4) (b : Fin 2) (e : Fin 4) (r : Fin 64) (d : Fin 128) :
    extractStridedSlice S64x128 ![64 * a.val, 128 * (4 * b.val + e.val)] q (q_slices a b e) (ix2 r d)
      = q (ix2 ⟨64 * a.val + r.val, by omega⟩ ⟨128 * (4 * b.val + e.val) + d.val, by omega⟩) := by
  pointwise

theorem col_at (K : FVec Ideal S1024x512 .f32) (e : Fin 4) (t : Fin 1024) (d : Fin 128) :
    extractStridedSlice S1024x128 ![0, 128 * e.val] K (kv_slices e) (ix2 t d) = K (ix2 t ⟨128 * e.val + d.val, by omega⟩) := by
  pointwise

theorem wts_at (a : Fin 4) (b : Fin 2) (e : Fin 4) (r : Fin 64) (t : Fin 1024) : wts q k a b e (ix2 r t)
    = Ideal.exp (∑ d : Fin 128, q (ix2 ⟨64 * a.val + r.val, by omega⟩ ⟨128 * (4 * b.val + e.val) + d.val, by omega⟩) * k a b (ix2 t ⟨128 * e.val + d.val, by omega⟩)) := by
  unfold wts
  simp only [← q_at, ← col_at]
  generalize extractStridedSlice S64x128 ![64 * a.val, 128 * (4 * b.val + e.val)] q (q_slices a b e) = Q
  generalize extractStridedSlice S1024x128 ![0, 128 * e.val] (k a b) (kv_slices e) = K
  pointwise

theorem wsum_at (a : Fin 4) (b : Fin 2) (e : Fin 4) (r : Fin 64) : wsum q k a b e (ix2 r 0) = ∑ t : Fin 1024, wts q k a b e (ix2 r t) := by
  unfold wsum
  generalize wts q k a b e = W
  pointwise

theorem wval_at (a : Fin 4) (b : Fin 2) (e : Fin 4) (r : Fin 64) (d : Fin 128) : wval q k v a b e (ix2 r d)
    = ∑ t : Fin 1024, wts q k a b e (ix2 r t) * v a b (ix2 t ⟨128 * e.val + d.val, by omega⟩) := by
  unfold wval
  simp only [← col_at]
  generalize wts q k a b e = W
  generalize extractStridedSlice S1024x128 ![0, 128 * e.val] (v a b) (kv_slices e) = V
  pointwise

theorem wsums_at (a : Fin 4) (b : Fin 2) (e : Fin 4) (r : Fin 64) : wsums q k a b (ix2 r e) = wsum q k a b e (ix2 r 0) := by
  unfold wsums
  generalize wsum q k a b = W
  pointwise
  match e with
  | ⟨0, _⟩ => rfl
  | ⟨1, _⟩ => rfl
  | ⟨2, _⟩ => rfl
  | ⟨3, _⟩ => rfl

theorem partG_val (R : Fin 256) (h : Fin 8) (d : Fin 128) : partG q k v (ix2 R ⟨128 * h.val + d.val, by omega⟩)
    = wval q k v ⟨R.val / 64, by omega⟩ ⟨h.val / 4, by omega⟩ ⟨h.val % 4, by omega⟩ (ix2 ⟨R.val % 64, by omega⟩ d) := by
  unfold partG
  rw [dif_pos (show ((ix2 R ⟨128 * h.val + d.val, by omega⟩ : S256x1152.Idx) 1).val < 1024 by show 128 * h.val + d.val < 1024; omega), ← ix2_eq_valueIdx]
  have hd := d.isLt
  have hh := h.isLt
  congr 1
  · exact Fin.ext (by show (128 * h.val + d.val) / 512 = h.val / 4; omega)
  · exact Fin.ext (by show (128 * h.val + d.val) / 128 % 4 = h.val % 4; omega)
  · congr 1
    exact Fin.ext (by show (128 * h.val + d.val) % 128 = d.val; omega)

theorem partG_sum (R : Fin 256) (h : Fin 8) : partG q k v (ix2 R ⟨1024 + h.val, by omega⟩)
    = wsum q k ⟨R.val / 64, by omega⟩ ⟨h.val / 4, by omega⟩ ⟨h.val % 4, by omega⟩ (ix2 ⟨R.val % 64, by omega⟩ 0) := by
  have hh := h.isLt
  unfold partG
  rw [dif_neg (show ¬ ((ix2 R ⟨1024 + h.val, by omega⟩ : S256x1152.Idx) 1).val < 1024 by show ¬ 1024 + h.val < 1024; omega),
    dif_pos (show ((ix2 R ⟨1024 + h.val, by omega⟩ : S256x1152.Idx) 1).val < 1032 by show 1024 + h.val < 1032; omega), ← ix2_eq_valueIdx, ← wsums_at]
  congr 1
  · exact Fin.ext (by show (1024 + h.val - 1024) / 4 = h.val / 4; omega)
  · congr 1
    exact Fin.ext (by show (1024 + h.val - 1024) % 4 = h.val % 4; omega)
end Att

/-! ## The exchange -/

section Exch
variable (inp : Dev nD → Ins Ideal)

/-- Device `d`'s partial sums. -/
def pg (d : Dev nD) (z : S256x1152.Idx) : EReal := partG (qv (inp d)) (kc (inp d)) (vc (inp d)) z

/-- A device's chunk and the seven it receives add up to the sum over all devices. -/
theorem sum_src (c : Fin 8) (f : Fin 8 → EReal) :
    f c + f (src c 0) + f (src c 1) + f (src c 2) + f (src c 3) + f (src c 4) + f (src c 5) + f (src c 6) = ∑ d, f d := by
  rw [Fin.sum_univ_eight]
  fin_cases c
  · show f 0 + f 7 + f 6 + f 5 + f 4 + f 3 + f 2 + f 1 = _; ac_rfl
  · show f 1 + f 0 + f 7 + f 6 + f 5 + f 4 + f 3 + f 2 = _; ac_rfl
  · show f 2 + f 1 + f 0 + f 7 + f 6 + f 5 + f 4 + f 3 = _; ac_rfl
  · show f 3 + f 2 + f 1 + f 0 + f 7 + f 6 + f 5 + f 4 = _; ac_rfl
  · show f 4 + f 3 + f 2 + f 1 + f 0 + f 7 + f 6 + f 5 = _; ac_rfl
  · show f 5 + f 4 + f 3 + f 2 + f 1 + f 0 + f 7 + f 6 = _; ac_rfl
  · show f 6 + f 5 + f 4 + f 3 + f 2 + f 1 + f 0 + f 7 = _; ac_rfl
  · show f 7 + f 6 + f 5 + f 4 + f 3 + f 2 + f 1 + f 0 = _; ac_rfl

/-- The sums a device divides and multiplies, at row `r` of its chunk. -/
def allsum (c : Dev nD) : FVec Ideal S32x1152 .f32 := addf (acc inp c) (extf .f32 (got inp c 6) bitsLt_bf16_f32)

theorem allsum_at (c : Dev nD) (r : Fin 32) (n : Fin 1152) :
    allsum inp c (ix2 r n) = ∑ d : Fin 8, pg inp d (ix2 ⟨32 * c.val + r.val, by have h : c.val < 8 := c.isLt; omega⟩ n) :=
  sum_src c (fun d => pg inp d (ix2 ⟨32 * c.val + r.val, by have h : c.val < 8 := c.isLt; omega⟩ n))

theorem slab (h : Fin 8) : S32x1152.Slices ![0, 128 * h.val] S32x128 := by revert h; decide
theorem slabsum (h : Fin 8) : S32x1152.Slices ![0, 1024 + h.val] S32x1 := by revert h; decide

/-- One head's quotients. -/
def quot (S : FVec Ideal S32x1152 .f32) (h : Fin 8) : FVec Ideal S32x128 .f32 :=
  divf (extractStridedSlice S32x128 ![0, 128 * h.val] S (slab h)) (broadcastTo S32x128 (extractStridedSlice S32x1 ![0, 1024 + h.val] S (slabsum h)) broadcasts_S32x1_S32x128)

theorem quot_at (S : FVec Ideal S32x1152 .f32) (h : Fin 8) (r : Fin 32) (d : Fin 128) :
    quot S h (ix2 r d) = Ideal.div (S (ix2 r ⟨128 * h.val + d.val, by omega⟩)) (S (ix2 r ⟨1024 + h.val, by omega⟩)) := by
  unfold quot
  pointwise

theorem eight : ∀ g : Fin 8, (((List.replicate 8 S32x128).take g.val).map fun s : Shape => if h : s.rank = S32x1024.rank then s.size ((1 : Fin 2).cast h.symm) else 0).sum = 128 * g.val := by
  decide

/-- The eight heads side by side. -/
def heads (B : Fin 8 → FVec Ideal S32x128 .f32) : FVec Ideal S32x1024 .f32 :=
  concatenate S32x1024 1 [⟨S32x128, B 0⟩, ⟨S32x128, B 1⟩, ⟨S32x128, B 2⟩, ⟨S32x128, B 3⟩, ⟨S32x128, B 4⟩, ⟨S32x128, B 5⟩, ⟨S32x128, B 6⟩, ⟨S32x128, B 7⟩]
    concatenates_S32x128_S32x128_S32x128_S32x128_S32x128_S32x128_S32x128_S32x128_S32x1024_d1

theorem heads_at (B : Fin 8 → FVec Ideal S32x128 .f32) (g : Fin 8) (r : Fin 32) (d : Fin 128) : heads B (ix2 r ⟨128 * g.val + d.val, by omega⟩) = B g (ix2 r d) := by
  unfold heads
  refine concatenate_apply_piece (t := S32x1024) (1 : Fin 2) _ _ _ g.val (by show g.val < 8; exact g.isLt) S32x128 (B g) (by fin_cases g <;> rfl) rfl (128 * g.val)
    (by rw [List.map_take]; exact eight g) (ix2 r d) ?_ rfl
  intro c hc
  match c with
  | ⟨0, _⟩ => rfl
  | ⟨1, _⟩ => exact absurd rfl hc

/-- The output product. -/
def lastmul (H : FVec Ideal S32x1024 .f32) (W : FVec Ideal S1024x1024 .f32) : FVec Ideal S32x1024 .bf16 :=
  shapeCast S32x1024 (truncf .bf16 (matmul dot_S32x1024_S1024x1024_S32x1024_1_0_0_1_n_n none H
      (shapeCast S1024x1024 W shapeCasts_S1024x1024_S1024x1024) (constant S32x1024 .f32 0x00000000#32)) bitsLt_bf16_f32) shapeCasts_S32x1024_S32x1024

theorem lastmul_at (H : FVec Ideal S32x1024 .f32) (W : FVec Ideal S1024x1024 .f32) (r : Fin 32) (n : Fin 1024) :
    lastmul H W (ix2 r n) = ∑ p : Fin 1024, (H (ix2 r p) * W (ix2 p n) : EReal) := by
  unfold lastmul
  pointwise

theorem finished_eq (c : Dev nD) : ownv inp c = lastmul (heads (quot (allsum inp c))) (wov (inp c)) := rfl

theorem finished_at (c : Dev nD) (r : Fin 32) (n : Fin 1024) : ownv inp c (ix2 r n)
    = ∑ p : Fin 1024, heads (quot (allsum inp c)) (ix2 r p) * woA (inp c) (ix2 p n) := by
  rw [finished_eq, wov_eq, lastmul_at]

theorem out_at (R : Fin 256) (n : Fin 1024) : outv inp (ix3 0 R n) = ownv inp ⟨R.val / 32, by show _ < 8; omega⟩ (ix2 ⟨R.val % 32, by omega⟩ n) := by
  have : outv inp (ix3 0 R n) = allv inp (ix2 R n) := by
    unfold outv
    generalize allv inp = A
    unfold k0_pay133
    pointwise
  rw [this]
  rfl

/-- The result at an index: each head's weighted sums over its sums of weights, times the output matrix. -/
theorem outv_at (R : Fin 256) (n : Fin 1024) : outv inp (ix3 0 R n)
    = ∑ p : Fin 1024, Ideal.div (∑ d : Fin 8, pg inp d (ix2 R ⟨p.val, by omega⟩)) (∑ d : Fin 8, pg inp d (ix2 R ⟨1024 + p.val / 128, by omega⟩))
        * woA (inp ⟨R.val / 32, by show _ < 8; omega⟩) (ix2 p n) := by
  rw [out_at, finished_at]
  refine Finset.sum_congr rfl fun p _ => ?_
  congr 1
  have hp := heads_at (quot (allsum inp ⟨R.val / 32, by show _ < 8; omega⟩)) ⟨p.val / 128, by omega⟩ ⟨R.val % 32, by omega⟩ ⟨p.val % 128, by omega⟩
  rw [quot_at, allsum_at, allsum_at] at hp
  have e : (⟨128 * (p.val / 128) + p.val % 128, by omega⟩ : Fin 1024) = p := Fin.ext (by show 128 * (p.val / 128) + p.val % 128 = p.val; omega)
  have eR : (⟨32 * (R.val / 32) + R.val % 32, by omega⟩ : Fin 256) = R := Fin.ext (by show 32 * (R.val / 32) + R.val % 32 = R.val; omega)
  have e' : (⟨128 * (p.val / 128) + p.val % 128, by omega⟩ : Fin 1152) = ⟨p.val, by omega⟩ := Fin.ext (by show 128 * (p.val / 128) + p.val % 128 = p.val; omega)
  simp only [e, eR, e'] at hp
  exact hp

end Exch

end Cert.KernelIdeal.Ring

end
-- ==== Proof.RefTerm.lean ====
/-
The reference's result as a chain of named arrays: the mask, the masked scores, the weights, the context.
-/
module

public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe Idealize.SL.Sem

variable {F : FTy → Type} [FloatOps F]

/-- `jnp.arange(256) // 64`, as it prints. -/
def qblk : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- `jnp.arange(32768) // 64`, as it prints. -/
def kblk : IVec S32768 32 :=
  select (andi (cmpi .ne (signi (iotaInDim S32768 32 0)) (broadcastInDim S32768 ![] bcast_S_S32768 (signi (id (constantI S_ 32 64#32)))))
      (cmpi .ne (Host.remsi (iotaInDim S32768 32 0) (broadcastInDim S32768 ![] bcast_S_S32768 (id (constantI S_ 32 64#32)))) (broadcastInDim S32768 ![] bcast_S_S32768 (constantI S_ 32 0#32))))
    (subi (Host.divsi (iotaInDim S32768 32 0) (broadcastInDim S32768 ![] bcast_S_S32768 (id (constantI S_ 32 64#32)))) (broadcastInDim S32768 ![] bcast_S_S32768 (constantI S_ 32 1#32)))
    (Host.divsi (iotaInDim S32768 32 0) (broadcastInDim S32768 ![] bcast_S_S32768 (id (constantI S_ 32 64#32))))

/-- The divisor 4 of `% 4`, as it prints. -/
def four : IVec S_ 32 := select (cmpi .eq (id (constantI S_ 32 4#32)) (constantI S_ 32 0#32)) (constantI S_ 32 1#32) (id (constantI S_ 32 4#32))

/-- `x % 4` of a row of words, as it prints. -/
def kmod (x : IVec S1x32768 32) : IVec S1x32768 32 :=
  select (andi (cmpi .ne (cmpi .slt (Host.remsi x (broadcastInDim S1x32768 ![] bcast_S_S1x32768 four)) (broadcastInDim S1x32768 ![] bcast_S_S1x32768 (constantI S_ 32 0#32)))
        (broadcastInDim S1x32768 ![] bcast_S_S1x32768 (cmpi .slt four (constantI S_ 32 0#32))))
      (cmpi .ne (Host.remsi x (broadcastInDim S1x32768 ![] bcast_S_S1x32768 four)) (broadcastInDim S1x32768 ![] bcast_S_S1x32768 (constantI S_ 32 0#32))))
    (addi (Host.remsi x (broadcastInDim S1x32768 ![] bcast_S_S1x32768 four)) (broadcastInDim S1x32768 ![] bcast_S_S1x32768 four))
    (Host.remsi x (broadcastInDim S1x32768 ![] bcast_S_S1x32768 four))

/-- `x % 4` of a column of words, as it prints. -/
def qmod (x : IVec S256x1 32) : IVec S256x1 32 :=
  select (andi (cmpi .ne (cmpi .slt (Host.remsi x (broadcastInDim S256x1 ![] bcast_S_S256x1 four)) (broadcastInDim S256x1 ![] bcast_S_S256x1 (constantI S_ 32 0#32)))
        (broadcastInDim S256x1 ![] bcast_S_S256x1 (cmpi .slt four (constantI S_ 32 0#32))))
      (cmpi .ne (Host.remsi x (broadcastInDim S256x1 ![] bcast_S_S256x1 four)) (broadcastInDim S256x1 ![] bcast_S_S256x1 (constantI S_ 32 0#32))))
    (addi (Host.remsi x (broadcastInDim S256x1 ![] bcast_S_S256x1 four)) (broadcastInDim S256x1 ![] bcast_S_S256x1 four))
    (Host.remsi x (broadcastInDim S256x1 ![] bcast_S_S256x1 four))

def qcol : IVec S256x1 32 := broadcastInDim S256x1 ![0] bcast_S256_S256x1_0 qblk
def krow : IVec S1x32768 32 := broadcastInDim S1x32768 ![1] bcast_S32768_S1x32768_1 kblk

/-- The mask. -/
def maskv : IVec S256x32768 1 :=
  ori (cmpi .eq (broadcastInDim S256x32768 ![0, 1] bcast_S256x1_S256x32768_0_1 qcol) (broadcastInDim S256x32768 ![0, 1] bcast_S1x32768_S256x32768_0_1 krow))
    (cmpi .eq (broadcastInDim S256x32768 ![0, 1] bcast_S1x32768_S256x32768_0_1 (kmod krow)) (broadcastInDim S256x32768 ![0, 1] bcast_S256x1_S256x32768_0_1 (qmod qcol)))

/-- Whether a row keeps any key. -/
def keepv : IVec S256 1 := Host.reduce IntOp.ori maskv (constantI S_ 1 0#1) reducesTo_S256x32768_S256_d1 h_S_

/-- The masked scores. -/
def scorev (x : FVec F S1x256x1024 .f32) (wq : FVec F S1024x1024 .f32) (k : FVec F S1x32768x8x128 .f32) : FVec F S1x8x256x32768 .f32 :=
  select (broadcastInDim S1x8x256x32768 ![0, 1, 2, 3] bcast_S1x1x256x32768_S1x8x256x32768_0_1_2_3 (broadcastInDim S1x1x256x32768 ![2, 3] bcast_S256x32768_S1x1x256x32768_2_3 maskv))
    (mulf (Host.dotGeneral dot_S1x256x8x128_S1x32768x8x128_S1x8x256x32768_3_3_1_1_02_02 none
        (shapeCast S1x256x8x128 (Host.dotGeneral dot_S1x256x1024_S1024x1024_S1x256x1024_2_0_01_1_n_n none x wq) shapeCasts_S1x256x1024_S1x256x8x128) k)
      (broadcastInDim S1x8x256x32768 ![] bcast_S_S1x8x256x32768 (constant S_ .f32 0x3DB504F3#32)))
    (broadcastInDim S1x8x256x32768 ![] bcast_S_S1x8x256x32768 (id (constant S_ .f32 0xFF800000#32)))

/-- The weights before they are divided. -/
def expv (s : FVec F S1x8x256x32768 .f32) : FVec F S1x8x256x32768 .f32 :=
  Host.exp (subf s (broadcastInDim S1x8x256x32768 ![0, 1, 2, 3] bcast_S1x8x256x1_S1x8x256x32768_0_1_2_3
    (broadcastInDim S1x8x256x1 ![0, 1, 2] bcast_S1x8x256_S1x8x256x1_0_1_2
      (Host.reduce FloatOps.maximumf s (constant S_ .f32 0xFF800000#32) reducesTo_S1x8x256x32768_S1x8x256_d3 h_S_))))

/-- The sums the weights are divided by. -/
def sumv (e : FVec F S1x8x256x32768 .f32) : FVec F S1x8x256x1 .f32 :=
  select (broadcastInDim S1x8x256x1 ![0, 1, 2, 3] bcast_S1x1x256x1_S1x8x256x1_0_1_2_3 (broadcastInDim S1x1x256x1 ![2] bcast_S256_S1x1x256x1_2 keepv))
    (broadcastInDim S1x8x256x1 ![0, 1, 2] bcast_S1x8x256_S1x8x256x1_0_1_2 (Host.reduceAdd e (constant S_ .f32 0x00000000#32) reducesTo_S1x8x256x32768_S1x8x256_d3 h_S_))
    (broadcastInDim S1x8x256x1 ![] bcast_S_S1x8x256x1 (id (constant S_ .f32 0x3F800000#32)))

/-- The weights. -/
def weightv (e : FVec F S1x8x256x32768 .f32) : FVec F S1x8x256x32768 .f32 :=
  select (broadcastInDim S1x8x256x32768 ![0, 1, 2, 3] bcast_S1x1x256x1_S1x8x256x32768_0_1_2_3 (broadcastInDim S1x1x256x1 ![2] bcast_S256_S1x1x256x1_2 keepv))
    (Host.divf e (broadcastInDim S1x8x256x32768 ![0, 1, 2, 3] bcast_S1x8x256x1_S1x8x256x32768_0_1_2_3 (sumv e)))
    (broadcastInDim S1x8x256x32768 ![] bcast_S_S1x8x256x32768 (id (constant S_ .f32 0x00000000#32)))

/-- The context. -/
def ctxv (w : FVec F S1x8x256x32768 .f32) (v : FVec F S1x32768x8x128 .f32) : FVec F S1x256x1024 .f32 :=
  shapeCast S1x256x1024 (transpose S1x256x8x128 [0, 3, 1, 2] (Host.dotGeneral dot_S1x32768x8x128_S1x8x256x32768_S1x8x128x256_1_3_3_2_02_01 none v w)
    transposes_S1x8x128x256_S1x256x8x128_0_3_1_2) shapeCasts_S1x256x8x128_S1x256x1024

/-- The whole result. -/
def refv (x : FVec F S1x256x1024 .f32) (wq : FVec F S1024x1024 .f32) (k v : FVec F S1x32768x8x128 .f32) (wo : FVec F S1024x1024 .f32) : FVec F S1x256x1024 .f32 :=
  Host.dotGeneral dot_S1x256x1024_S1024x1024_S1x256x1024_2_0_01_1_n_n none (ctxv (weightv (expv (scorev x wq k))) v) wo

set_option maxRecDepth 16384 in
set_option maxHeartbeats 4000000 in
theorem res_eq (m : (ℓ : Loc nD τ sig) → Buf (Elt F) ℓ) (c : Dev nD) :
    res_out0 m c = refv (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_out0 res_main_v39
  rfl

end Cert.ReferenceIdeal.Value

end
-- ==== Proof.RefMask.lean ====
/-
The reference's mask: query row `r` attends key `j` exactly when the key's block is the query's block modulo four.
-/
module

public import proofs.«01_k».proof.Proof.RefTerm
public import Idealize.ShloMosaic.Lib.Pointwise
public import Idealize.ShloMosaic.Lib.Affine
public import Idealize.ShloMosaic.Lib.Routing.OpsOrder

@[expose] public section

noncomputable section

namespace Cert.ReferenceIdeal.Value

open Cert.ReferenceIdeal Cert.ReferenceIdeal.Gen Idealize.ShloMosaic Idealize.ShloMosaic.TcCoe Idealize.SL.Sem

/-! ## Words that hold small numbers -/

theorem word_toNat {n : Nat} (h : n < 65536) : (BitVec.ofNat 32 n).toNat = n := by
  rw [BitVec.toNat_ofNat]; exact Nat.mod_eq_of_lt (by omega)

theorem word_msb {n : Nat} (h : n < 65536) : (BitVec.ofNat 32 n).msb = false := by
  rw [BitVec.msb_eq_false_iff_two_mul_lt, word_toNat h]; omega

theorem word_div {n : Nat} (h : n < 65536) : IntOp.divsi .host (BitVec.ofNat 32 n) 64#32 = BitVec.ofNat 32 (n / 64) := by
  have hc : ¬ IntOp.SDivCorner (BitVec.ofNat 32 n) 64#32 := by simp [IntOp.SDivCorner]
  rw [IntOp.divsi, if_neg hc, BitVec.sdiv_eq, word_msb h]
  apply BitVec.eq_of_toNat_eq
  show (BitVec.ofNat 32 n / 64#32).toNat = _
  rw [BitVec.toNat_udiv, word_toNat h, word_toNat (n := n / 64) (by omega)]
  rfl

theorem word_rem {n : Nat} (h : n < 65536) (k : Nat) (hk : 0 < k) (hk' : k < 65536) :
    IntOp.remsi .host (BitVec.ofNat 32 n) (BitVec.ofNat 32 k) = BitVec.ofNat 32 (n % k) := by
  apply BitVec.eq_of_toNat_eq
  rw [IntOp.toNat_remsi .host (by rw [word_toNat h]; omega) k hk (by omega), word_toNat h,
    word_toNat ((Nat.mod_lt _ hk).trans hk')]

/-- Floor division by 64 of a number that is not negative. -/
theorem word_fdiv {n : Nat} (h : n < 65536) :
    Scalar.select (IntOp.andi (IntOp.cmpi .ne (if BitVec.ofNat 32 n = 0 then 0 else if (BitVec.ofNat 32 n).msb then -1 else 1) (if (64#32) = 0 then 0 else if (64#32).msb then -1 else (1 : BitVec 32)))
        (IntOp.cmpi .ne (IntOp.remsi .host (BitVec.ofNat 32 n) 64#32) 0#32))
      (IntOp.subi (IntOp.divsi .host (BitVec.ofNat 32 n) 64#32) 1#32) (IntOp.divsi .host (BitVec.ofNat 32 n) 64#32) = BitVec.ofNat 32 (n / 64) := by
  rw [word_div h, show IntOp.remsi .host (BitVec.ofNat 32 n) 64#32 = BitVec.ofNat 32 (n % 64) from word_rem h 64 (by decide) (by decide), word_msb h]
  by_cases h0 : n = 0
  · subst h0; rfl
  · have hne : BitVec.ofNat 32 n ≠ 0 := fun e => h0 (by have := congrArg BitVec.toNat e; rw [word_toNat h] at this; exact this)
    rw [if_neg hne]
    have : IntOp.cmpi .ne (if false = true then (-1 : BitVec 32) else 1) (if (64#32) = 0 then 0 else if (64#32).msb then -1 else (1 : BitVec 32)) = 0#1 := by decide
    rw [this]
    have z : ∀ b : BitVec 1, IntOp.andi 0#1 b = 0#1 := by decide
    rw [z]; rfl

theorem qblk_at (r : Fin 256) : qblk (ix1 r) = BitVec.ofNat 32 (r.val / 64) :=
  word_fdiv (n := r.val) (by have := r.isLt; omega)
theorem kblk_at (j : Fin 32768) : kblk (ix1 j) = BitVec.ofNat 32 (j.val / 64) :=
  word_fdiv (n := j.val) (by have := j.isLt; omega)

/-- `% 4` of a number that is not negative. -/
theorem word_mod {n : Nat} (h : n < 65536) :
    Scalar.select (IntOp.andi (IntOp.cmpi .ne (IntOp.cmpi .slt (IntOp.remsi .host (BitVec.ofNat 32 n) 4#32) 0#32) (IntOp.cmpi .slt 4#32 0#32))
        (IntOp.cmpi .ne (IntOp.remsi .host (BitVec.ofNat 32 n) 4#32) 0#32))
      (IntOp.addi (IntOp.remsi .host (BitVec.ofNat 32 n) 4#32) 4#32) (IntOp.remsi .host (BitVec.ofNat 32 n) 4#32) = BitVec.ofNat 32 (n % 4) := by
  rw [show IntOp.remsi .host (BitVec.ofNat 32 n) 4#32 = BitVec.ofNat 32 (n % 4) from word_rem h 4 (by decide) (by decide)]
  have : n % 4 < 4 := Nat.mod_lt _ (by decide)
  generalize n % 4 = k at this
  interval_cases k <;> rfl

theorem qcol_at (r : Fin 256) : qcol (ix2 r 0) = BitVec.ofNat 32 (r.val / 64) := by
  rw [← qblk_at]; unfold qcol; pointwise
theorem krow_at (j : Fin 32768) : krow (ix2 0 j) = BitVec.ofNat 32 (j.val / 64) := by
  rw [← kblk_at]; unfold krow; pointwise

theorem qmod_at (r : Fin 256) : qmod qcol (ix2 r 0) = BitVec.ofNat 32 (r.val / 64 % 4) := by
  have := word_mod (n := r.val / 64) (by have := r.isLt; omega)
  rw [← qcol_at] at this
  exact this
theorem kmod_at (j : Fin 32768) : kmod krow (ix2 0 j) = BitVec.ofNat 32 (j.val / 64 % 4) := by
  have := word_mod (n := j.val / 64) (by have := j.isLt; omega)
  rw [← krow_at] at this
  exact this

theorem word_eq {a b : Nat} (ha : a < 65536) (hb : b < 65536) : IntOp.cmpi .eq (BitVec.ofNat 32 a) (BitVec.ofNat 32 b) = BitVec.ofBool (decide (a = b)) := by
  unfold IntOp.cmpi
  congr 1
  rw [Bool.eq_iff_iff]
  simp only [beq_iff_eq, decide_eq_true_eq]
  constructor
  · intro e; have := congrArg BitVec.toNat e; rwa [word_toNat ha, word_toNat hb] at this
  · rintro rfl; rfl

/-- Whether query row `r` attends key `j`. -/
def Sees (r : Fin 256) (j : Fin 32768) : Prop := j.val / 64 % 4 = r.val / 64
instance (r : Fin 256) (j : Fin 32768) : Decidable (Sees r j) := inferInstanceAs (Decidable (_ = _))

theorem maskv_at (r : Fin 256) (j : Fin 32768) : maskv (ix2 r j) = BitVec.ofBool (decide (Sees r j)) := by
  have hr := r.isLt
  have hj := j.isLt
  have e : maskv (ix2 r j) = IntOp.ori (IntOp.cmpi .eq (qcol (ix2 r 0)) (krow (ix2 0 j))) (IntOp.cmpi .eq (kmod krow (ix2 0 j)) (qmod qcol (ix2 r 0))) := by
    unfold maskv; pointwise
  rw [e, qcol_at, krow_at, kmod_at, qmod_at, word_eq (by omega) (by omega), word_eq (by omega) (by omega)]
  have o : ∀ a b : Bool, IntOp.ori (BitVec.ofBool a) (BitVec.ofBool b) = BitVec.ofBool (a || b) := by decide
  rw [o]
  congr 1
  rw [Bool.eq_iff_iff]
  rw [Bool.or_eq_true, decide_eq_true_eq, decide_eq_true_eq, decide_eq_true_eq]
  show _ ↔ j.val / 64 % 4 = r.val / 64
  omega

/-- Every row keeps a key. -/
theorem keepv_at (r : Fin 256) : keepv (ix1 r) = 1#1 := by
  have hr := r.isLt
  have e : keepv (ix1 r) = Finset.fold IntOp.ori (0#1) (fun j : Fin 32768 => maskv (ix2 r j)) Finset.univ := by
    unfold keepv; rw [Host.reduce_eq_fold_single IntOp.ori _ _ reducesTo_S256x32768_S256_d1 (by decide) h_S_]
    rfl
  rw [e, Routing.fold_ori]
  refine ⟨⟨64 * (r.val / 64), by omega⟩, Finset.mem_univ _, ?_⟩
  rw [maskv_at, decide_eq_true (show Sees r ⟨64 * (r.val / 64), by omega⟩ by show 64 * (r.val / 64) / 64 % 4 = r.val / 64; omega)]
  rfl

end Cert.ReferenceIdeal.Value

end
-- ==== Proof.Soft.lean ====
/-
Softmax over the extended reals: subtracting the maximum and dividing each weight is the same as dividing the weighted sum
by the sum of the weights, when the scores kept are finite. The values weighted may be infinite.
-/
module

public import Idealize.ShloMosaic.PureOps.Ideal
public import Mathlib.Data.Finset.Fold

@[expose] public section

noncomputable section

namespace Cert.Attn

open Idealize.ShloMosaic

/-- A finite sum of finite numbers is the real sum. -/
theorem coe_sum {ι : Type*} (s : Finset ι) (f : ι → ℝ) : (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- A finite nonnegative factor goes through any sum. -/
theorem sum_mul_coe {ι : Type*} (s : Finset ι) (f : ι → EReal) {c : ℝ} (hc : 0 ≤ c) : (∑ j ∈ s, f j * (c : EReal)) = (∑ j ∈ s, f j) * (c : EReal) := by
  classical
  induction s using Finset.induction_on with
  | empty => simp
  | insert a s ha ih =>
    rw [Finset.sum_insert ha, Finset.sum_insert ha, ih, mul_comm (f a + _), mul_comm (f a), mul_comm (∑ j ∈ s, f j)]
    exact (EReal.left_distrib_of_nonneg_of_ne_top (by exact_mod_cast hc) (EReal.coe_ne_top c) _ _).symm

section Soft
variable {ι : Type*} [Fintype ι] [DecidableEq ι] (A : Finset ι) (σ : ι → ℝ)

/-- A score, or −∞ outside the mask. -/
def masked (j : ι) : EReal := if j ∈ A then (σ j : EReal) else ⊥

/-- The largest of them is finite. -/
theorem max_masked (hA : A.Nonempty) : ∃ m : ℝ, Finset.univ.fold max (⊥ : EReal) (masked A σ) = (m : EReal) := by
  have h1 : Finset.univ.fold max (⊥ : EReal) (masked A σ) < ⊤ := by
    refine (Finset.fold_max_lt _).mpr ⟨bot_lt_top, fun j _ => ?_⟩
    unfold masked; split
    · exact EReal.coe_lt_top _
    · exact bot_lt_top
  have h2 : ⊥ < Finset.univ.fold max (⊥ : EReal) (masked A σ) := by
    obtain ⟨a, ha⟩ := hA
    refine (Finset.lt_fold_max _).mpr (Or.inr ⟨a, Finset.mem_univ _, ?_⟩)
    rw [masked, if_pos ha]
    exact EReal.bot_lt_coe _
  exact ⟨_, (EReal.coe_toReal h1.ne h2.ne').symm⟩

/-- A weight after the maximum is subtracted. -/
theorem exp_masked (m : ℝ) (j : ι) :
    Ideal.exp (masked A σ j - (m : EReal)) = (((if j ∈ A then Real.exp (σ j) else 0) * Real.exp (-m) : ℝ) : EReal) := by
  unfold masked
  split
  · rw [← EReal.coe_sub, Ideal.exp_coe, sub_eq_add_neg, Real.exp_add]
  · rw [EReal.bot_sub, Ideal.exp_bot, zero_mul, EReal.coe_zero]

/-- The sum of the weights kept. -/
abbrev tot : ℝ := ∑ j ∈ A, Real.exp (σ j)

theorem tot_pos (hA : A.Nonempty) : 0 < tot A σ := Finset.sum_pos (fun j _ => Real.exp_pos _) hA

theorem sum_exp (m : ℝ) : (∑ j, Ideal.exp (masked A σ j - (m : EReal))) = ((tot A σ * Real.exp (-m) : ℝ) : EReal) := by
  rw [Finset.sum_congr rfl fun j _ => exp_masked A σ m j, coe_sum, ← Finset.sum_mul, Finset.sum_ite_mem, Finset.univ_inter]

/-- The weighted mean, computed either way. -/
theorem soft (hA : A.Nonempty) (V : ι → EReal) (m : ℝ) :
    (∑ j, V j * Ideal.div (Ideal.exp (masked A σ j - (m : EReal))) (∑ j, Ideal.exp (masked A σ j - (m : EReal))))
      = Ideal.div (∑ j ∈ A, Ideal.exp (σ j : EReal) * V j) (∑ j ∈ A, Ideal.exp (σ j : EReal)) := by
  have ht := tot_pos A σ hA
  have hm := Real.exp_pos (-m)
  have hs : (∑ j ∈ A, Ideal.exp (σ j : EReal)) = ((tot A σ : ℝ) : EReal) := by
    rw [Finset.sum_congr rfl fun j _ => Ideal.exp_coe (r := σ j), coe_sum]
  rw [hs, sum_exp, Ideal.div_coe ht.ne', ← sum_mul_coe _ _ (by positivity)]
  rw [← Finset.sum_subset (Finset.subset_univ A) fun j _ hj => ?_]
  · refine Finset.sum_congr rfl fun j hj => ?_
    rw [Ideal.div_coe (mul_pos ht hm).ne', exp_masked, if_pos hj, Ideal.exp_coe, ← EReal.coe_mul, mul_comm (V j), mul_right_comm (Real.exp (σ j) : EReal) (V j),
      ← EReal.coe_mul]
    congr 2
    field_simp
  · rw [Ideal.div_coe (mul_pos ht hm).ne', exp_masked, if_neg hj, zero_mul, EReal.coe_zero, zero_mul, mul_zero]

end Soft

/-- Scaling one factor of a product of finite vectors scales the product. -/
theorem dot_scale {n : Nat} (a b : Fin n → ℝ) (s : ℝ) :
    (∑ d, (a d : EReal) * (s : EReal) * (b d : EReal)) = ((∑ d, a d * b d) * s : ℝ) := by
  simp only [← EReal.coe_mul]
  rw [coe_sum, Finset.sum_mul]
  congr 1
  exact Finset.sum_congr rfl fun d _ => by ring

end Cert.Attn

end
-- ==== Proof.RefVal.lean ====
/-
The reference's arrays at an index, over the extended reals.
-/
module

public import proofs.«01_k».proof.Proof.RefMask
public import proofs.«01_k».proof.Proof.Soft
public import Idealize.ShloMosaic.Lib.IdealHost

@[expose] public section

noncomputable section

namespace Cert.ReferenceIdeal.Value

open Cert.ReferenceIdeal Cert.ReferenceIdeal.Gen Idealize.ShloMosaic Idealize.ShloMosaic.TcCoe Idealize.SL.Sem

/-- Column `128 h + d`. -/
def hcol (h : Fin 8) (d : Fin 128) : Fin 1024 := ⟨128 * h.val + d.val, by have := h.isLt; have := d.isLt; omega⟩

/-- The scores' factor. -/
def scl : EReal := Ideal.ofBits .f32 0x3DB504F3#32

theorem bot_word : Ideal.ofBits .f32 0xFF800000#32 = (⊥ : EReal) := by simp [Ideal.ofBits, Ideal.ieee]

theorem keepv_eq : keepv = fun _ => 1#1 := by
  funext i; idx_vars i; exact keepv_at i0

theorem scorev_at (x : FVec Ideal S1x256x1024 .f32) (wq : FVec Ideal S1024x1024 .f32) (k : FVec Ideal S1x32768x8x128 .f32) (h : Fin 8) (r : Fin 256) (j : Fin 32768) :
    scorev x wq k (ix4 0 h r j) = if Sees r j then (∑ d : Fin 128, (∑ p : Fin 1024, x (ix3 0 r p) * wq (ix2 p (hcol h d))) * k (ix4 0 j h d)) * scl else (⊥ : EReal) := by
  have e : scorev x wq k (ix4 0 h r j) = Scalar.select (maskv (ix2 r j))
      ((∑ d : Fin 128, (∑ p : Fin 1024, x (ix3 0 r p) * wq (ix2 p (hcol h d))) * k (ix4 0 j h d)) * scl : EReal) (Ideal.ofBits .f32 0xFF800000#32) := by
    have hc : ∀ d : Fin 128, hcol h d = ⟨h.val * 128 + d.val, by have := h.isLt; have := d.isLt; omega⟩ := fun d => Fin.ext (by show 128 * h.val + d.val = h.val * 128 + d.val; omega)
    simp only [hc]
    unfold scorev scl
    generalize maskv = mk
    pointwise
    rfl
  rw [e, maskv_at, bot_word]
  by_cases hs : Sees r j
  · rw [if_pos hs, decide_eq_true hs]; rfl
  · rw [if_neg hs, decide_eq_false hs]; rfl

theorem ctxv_at (w : FVec Ideal S1x8x256x32768 .f32) (v : FVec Ideal S1x32768x8x128 .f32) (h : Fin 8) (r : Fin 256) (d : Fin 128) :
    ctxv w v (ix3 0 r (hcol h d)) = ∑ j : Fin 32768, (v (ix4 0 j h d) : EReal) * w (ix4 0 h r j) := by
  unfold ctxv hcol
  pointwise

theorem expv_at (s : FVec Ideal S1x8x256x32768 .f32) (h : Fin 8) (r : Fin 256) (j : Fin 32768) :
    expv s (ix4 0 h r j) = Ideal.exp (s (ix4 0 h r j) - Finset.univ.fold max (⊥ : EReal) fun k : Fin 32768 => s (ix4 0 h r k)) := by
  rw [← bot_word]
  unfold expv
  pointwise

theorem sumv_at (e : FVec Ideal S1x8x256x32768 .f32) (h : Fin 8) (r : Fin 256) :
    sumv e (ix4 0 h r 0) = ∑ j : Fin 32768, (e (ix4 0 h r j) : EReal) := by
  unfold sumv
  rw [keepv_eq]
  pointwise

theorem stretch_at (q : FVec Ideal S1x8x256x1 .f32) (h : Fin 8) (r : Fin 256) (j : Fin 32768) :
    broadcastInDim S1x8x256x32768 ![0, 1, 2, 3] bcast_S1x8x256x1_S1x8x256x32768_0_1_2_3 q (ix4 0 h r j) = q (ix4 0 h r 0) := by pointwise

theorem keep_at (p : IVec S256 1) (h : Fin 8) (r : Fin 256) (j : Fin 32768) :
    broadcastInDim S1x8x256x32768 ![0, 1, 2, 3] bcast_S1x1x256x1_S1x8x256x32768_0_1_2_3 (broadcastInDim S1x1x256x1 ![2] bcast_S256_S1x1x256x1_2 p) (ix4 0 h r j) = p (ix1 r) := by pointwise

theorem select_one {α : Type} {s : Shape} (p : IVec s 1) (a b : s.Idx → α) (i : s.Idx) (h : p i = 1#1) : select p a b i = a i := by
  show Scalar.select (p i) (a i) (b i) = a i
  rw [h]; rfl

theorem div_at {s : Shape} (a b : FVec Ideal s .f32) (i : s.Idx) : Host.divf a b i = Ideal.div (a i) (b i) := rfl

theorem weightv_at (e : FVec Ideal S1x8x256x32768 .f32) (h : Fin 8) (r : Fin 256) (j : Fin 32768) :
    weightv e (ix4 0 h r j) = Ideal.div (e (ix4 0 h r j)) (sumv e (ix4 0 h r 0)) := by
  have k := keep_at keepv h r j
  rw [keepv_at] at k
  have s := select_one _ (Host.divf e (broadcastInDim S1x8x256x32768 ![0, 1, 2, 3] bcast_S1x8x256x1_S1x8x256x32768_0_1_2_3 (sumv e)))
    (broadcastInDim S1x8x256x32768 ![] bcast_S_S1x8x256x32768 (id (constant S_ .f32 0x00000000#32))) _ k
  rw [div_at, stretch_at] at s
  exact s

theorem refv_at (x : FVec Ideal S1x256x1024 .f32) (wq : FVec Ideal S1024x1024 .f32) (k v : FVec Ideal S1x32768x8x128 .f32) (wo : FVec Ideal S1024x1024 .f32)
    (r : Fin 256) (n : Fin 1024) :
    refv x wq k v wo (ix3 0 r n) = ∑ p : Fin 1024, (ctxv (weightv (expv (scorev x wq k))) v (ix3 0 r p) : EReal) * wo (ix2 p n) := by
  unfold refv
  generalize ctxv (weightv (expv (scorev x wq k))) v = c
  pointwise

end Cert.ReferenceIdeal.Value

end
-- ==== Proof.Agree.lean ====
/-
The kernel's result is the reference's: each head's weighted sums over its sums of weights are the softmax of the masked
scores, summed device by device.
-/
module

public import proofs.«01_k».proof.Proof.KerVal
public import proofs.«01_k».proof.Proof.RefVal

@[expose] public section

noncomputable section

namespace Cert.Attn

open Idealize.ShloMosaic Idealize.ShloMosaic.TcCoe
open Cert.ReferenceIdeal.Value Cert.KernelIdeal.Ring

/-! ## Real numbers behind finite scores -/

/-- Every element is a real number. -/
def Real' {s : Shape} (a : FVec Ideal s .f32) : Prop := ∀ i, a i = (((a i : EReal).toReal : ℝ) : EReal)

theorem scl_real : ∃ s : ℝ, scl = (s : EReal) := ⟨scl.toReal, by
  unfold scl
  simp [Ideal.ofBits, Ideal.ieee]
  rw [← EReal.coe_mul, EReal.toReal_coe]⟩

section
variable (x : FVec Ideal ReferenceIdeal.S1x256x1024 .f32) (wq : FVec Ideal ReferenceIdeal.S1024x1024 .f32) (k : FVec Ideal ReferenceIdeal.S1x32768x8x128 .f32)

/-- A query. -/
def qr (r : Fin 256) (c : Fin 1024) : ℝ := ∑ p : Fin 1024, (x (ix3 0 r p) : EReal).toReal * (wq (ix2 p c) : EReal).toReal
/-- A score, without the mask. -/
def sig (s : ℝ) (h : Fin 8) (r : Fin 256) (j : Fin 32768) : ℝ := (∑ d : Fin 128, qr x wq r (hcol h d) * (k (ix4 0 j h d) : EReal).toReal) * s

theorem qr_eq (hx : Real' x) (hw : Real' wq) (r : Fin 256) (c : Fin 1024) : (∑ p : Fin 1024, (x (ix3 0 r p) : EReal) * wq (ix2 p c)) = (qr x wq r c : EReal) := by
  unfold qr
  rw [← coe_sum]
  refine Finset.sum_congr rfl fun p _ => ?_
  rw [EReal.coe_mul, ← hx, ← hw]

theorem ref_score (hx : Real' x) (hw : Real' wq) (hk : Real' k) {s : ℝ} (hs : scl = (s : EReal)) (h : Fin 8) (r : Fin 256) (j : Fin 32768) :
    scorev x wq k (ix4 0 h r j) = masked (Finset.univ.filter (Sees r)) (sig x wq k s h r) j := by
  rw [scorev_at]
  unfold masked
  simp only [Finset.mem_filter, Finset.mem_univ, true_and]
  by_cases hj : Sees r j
  · rw [if_pos hj, if_pos hj]
    unfold sig
    rw [EReal.coe_mul, ← coe_sum, hs]
    congr 1
    refine Finset.sum_congr rfl fun d _ => ?_
    rw [qr_eq x wq hx hw, EReal.coe_mul, ← hk]
  · rw [if_neg hj, if_neg hj]

theorem sees_some (r : Fin 256) : (Finset.univ.filter (Sees r)).Nonempty :=
  ⟨⟨64 * (r.val / 64), by omega⟩, by
    rw [Finset.mem_filter]
    refine ⟨Finset.mem_univ _, ?_⟩
    show 64 * (r.val / 64) / 64 % 4 = r.val / 64
    omega⟩

/-- The reference's context: a quotient of two sums over the keys the row attends. -/
theorem ref_ctx (hx : Real' x) (hw : Real' wq) (hk : Real' k) {s : ℝ} (hs : scl = (s : EReal)) (v : FVec Ideal ReferenceIdeal.S1x32768x8x128 .f32)
    (h : Fin 8) (r : Fin 256) (d : Fin 128) :
    ctxv (weightv (expv (scorev x wq k))) v (ix3 0 r (hcol h d))
      = Ideal.div (∑ j ∈ Finset.univ.filter (Sees r), Ideal.exp ((sig x wq k s h r j : ℝ) : EReal) * v (ix4 0 j h d))
          (∑ j ∈ Finset.univ.filter (Sees r), Ideal.exp ((sig x wq k s h r j : ℝ) : EReal)) := by
  obtain ⟨m, hm⟩ := max_masked (Finset.univ.filter (Sees r)) (sig x wq k s h r) (sees_some r)
  have he : ∀ j, expv (scorev x wq k) (ix4 0 h r j) = Ideal.exp (masked (Finset.univ.filter (Sees r)) (sig x wq k s h r) j - (m : EReal)) := by
    intro j
    have hf : (fun i : Fin 32768 => (scorev x wq k (ix4 0 h r i) : EReal)) = masked (Finset.univ.filter (Sees r)) (sig x wq k s h r) :=
      funext fun i => ref_score x wq k hx hw hk hs h r i
    rw [expv_at, hf, hm, ref_score x wq k hx hw hk hs]
  rw [ctxv_at, ← soft (Finset.univ.filter (Sees r)) (sig x wq k s h r) (sees_some r) (fun j => v (ix4 0 j h d)) m]
  refine Finset.sum_congr rfl fun j _ => ?_
  rw [weightv_at, sumv_at, he, Finset.sum_congr rfl fun i _ => he i]

end

/-! ## The keys a device holds -/

/-- The key that row `t` of a row group's blocks is, on device `c`. -/
def key (c : Fin 8) (R : Fin 256) (t : Fin 1024) : Fin 32768 :=
  ⟨4096 * c.val + (64 * (R.val / 64) + 256 * (t.val / 64) + t.val % 64), by omega⟩

theorem sum_keys (R : Fin 256) (f : Fin 32768 → EReal) : (∑ c : Fin 8, ∑ t : Fin 1024, f (key c R t)) = ∑ j ∈ Finset.univ.filter (Sees R), f j := by
  rw [← Finset.sum_product']
  refine Finset.sum_nbij' (fun ct => key ct.1 R ct.2) (fun j => (⟨j.val / 4096, by omega⟩, ⟨64 * (j.val % 4096 / 256) + j.val % 64, by omega⟩)) ?_ ?_ ?_ ?_ ?_
  · rintro ⟨c, t⟩ _
    rw [Finset.mem_filter]
    refine ⟨Finset.mem_univ _, ?_⟩
    show (4096 * c.val + (64 * (R.val / 64) + 256 * (t.val / 64) + t.val % 64)) / 64 % 4 = R.val / 64
    omega
  · intro j _
    exact Finset.mem_product.mpr ⟨Finset.mem_univ _, Finset.mem_univ _⟩
  · rintro ⟨c, t⟩ _
    refine Prod.ext (Fin.ext ?_) (Fin.ext ?_)
    · show (4096 * c.val + (64 * (R.val / 64) + 256 * (t.val / 64) + t.val % 64)) / 4096 = c.val
      omega
    · show 64 * ((4096 * c.val + (64 * (R.val / 64) + 256 * (t.val / 64) + t.val % 64)) % 4096 / 256) + (4096 * c.val + (64 * (R.val / 64) + 256 * (t.val / 64) + t.val % 64)) % 64 = t.val
      omega
  · intro j hj
    have hs : j.val / 64 % 4 = R.val / 64 := (Finset.mem_filter.mp hj).2
    refine Fin.ext ?_
    show 4096 * (j.val / 4096) + (64 * (R.val / 64) + 256 * ((64 * (j.val % 4096 / 256) + j.val % 64) / 64) + (64 * (j.val % 4096 / 256) + j.val % 64) % 64) = j.val
    omega
  · rintro ⟨c, t⟩ _
    rfl

/-! ## The kernel's partial sums -/

section
variable (inp : Fin 8 → Ins Ideal) (x : FVec Ideal ReferenceIdeal.S1x256x1024 .f32) (wq : FVec Ideal ReferenceIdeal.S1024x1024 .f32)
  (k v : FVec Ideal ReferenceIdeal.S1x32768x8x128 .f32)

theorem ker_wts (hx : Real' x) (hw : Real' wq) (hk : Real' k) {s : ℝ} (hs : scl = (s : EReal)) (c : Fin 8) (ex : xA (inp c) = x) (ew : wqA (inp c) = wq)
    (ek : ∀ (t : Fin 4096) (h : Fin 8) (d : Fin 128), kA (inp c) (ix4 0 t h d) = k (ix4 0 ⟨4096 * c.val + t.val, by omega⟩ h d))
    (R : Fin 256) (h : Fin 8) (t : Fin 1024) :
    wts (qv (inp c)) (kc (inp c)) ⟨R.val / 64, by omega⟩ ⟨h.val / 4, by omega⟩ ⟨h.val % 4, by omega⟩ (ix2 ⟨R.val % 64, by omega⟩ t)
      = Ideal.exp ((sig x wq k s h R (key c R t) : ℝ) : EReal) := by
  rw [wts_at]
  congr 1
  unfold sig
  rw [← dot_scale]
  refine Finset.sum_congr rfl fun d _ => ?_
  rw [kc_at, qv_at, ek, ex, ew]
  have e1 : (⟨64 * (R.val / 64) + R.val % 64, by omega⟩ : Fin 256) = R := Fin.ext (by show 64 * (R.val / 64) + R.val % 64 = R.val; omega)
  have e2 : (⟨128 * (4 * (h.val / 4) + h.val % 4) + d.val, by omega⟩ : Fin 1024) = hcol h d := Fin.ext (by show 128 * (4 * (h.val / 4) + h.val % 4) + d.val = 128 * h.val + d.val; omega)
  have e3 : (⟨4 * (h.val / 4) + h.val % 4, by omega⟩ : Fin 8) = h := Fin.ext (by show 4 * (h.val / 4) + h.val % 4 = h.val; omega)
  simp only [e1, e2, e3]
  rw [← qr_eq x wq hx hw, ← hk, ← hs]
  rfl

theorem ker_sum (hx : Real' x) (hw : Real' wq) (hk : Real' k) {s : ℝ} (hs : scl = (s : EReal)) (c : Fin 8) (ex : xA (inp c) = x) (ew : wqA (inp c) = wq)
    (ek : ∀ (t : Fin 4096) (h : Fin 8) (d : Fin 128), kA (inp c) (ix4 0 t h d) = k (ix4 0 ⟨4096 * c.val + t.val, by omega⟩ h d))
    (R : Fin 256) (h : Fin 8) : pg inp c (ix2 R ⟨1024 + h.val, by omega⟩) = ∑ t : Fin 1024, Ideal.exp ((sig x wq k s h R (key c R t) : ℝ) : EReal) := by
  unfold pg
  rw [partG_sum, wsum_at]
  exact Finset.sum_congr rfl fun t _ => ker_wts inp x wq k hx hw hk hs c ex ew ek R h t

theorem ker_val (hx : Real' x) (hw : Real' wq) (hk : Real' k) {s : ℝ} (hs : scl = (s : EReal)) (c : Fin 8) (ex : xA (inp c) = x) (ew : wqA (inp c) = wq)
    (ek : ∀ (t : Fin 4096) (h : Fin 8) (d : Fin 128), kA (inp c) (ix4 0 t h d) = k (ix4 0 ⟨4096 * c.val + t.val, by omega⟩ h d))
    (ev : ∀ (t : Fin 4096) (h : Fin 8) (d : Fin 128), vA (inp c) (ix4 0 t h d) = v (ix4 0 ⟨4096 * c.val + t.val, by omega⟩ h d))
    (R : Fin 256) (h : Fin 8) (d : Fin 128) : pg inp c (ix2 R ⟨128 * h.val + d.val, by omega⟩)
      = ∑ t : Fin 1024, Ideal.exp ((sig x wq k s h R (key c R t) : ℝ) : EReal) * v (ix4 0 (key c R t) h d) := by
  unfold pg
  rw [partG_val, wval_at]
  refine Finset.sum_congr rfl fun t _ => ?_
  rw [ker_wts inp x wq k hx hw hk hs c ex ew ek R h t, vc_at, ev]
  have e3 : (⟨4 * (h.val / 4) + h.val % 4, by omega⟩ : Fin 8) = h := Fin.ext (by show 4 * (h.val / 4) + h.val % 4 = h.val; omega)
  simp only [e3]
  rfl

/-- The two results are equal. -/
theorem agree (wo : FVec Ideal ReferenceIdeal.S1024x1024 .f32) (hx : Real' x) (hw : Real' wq) (hk : Real' k)
    (ex : ∀ c, xA (inp c) = x) (ew : ∀ c, wqA (inp c) = wq) (eo : ∀ c, woA (inp c) = wo)
    (ek : ∀ (c : Fin 8) (t : Fin 4096) (h : Fin 8) (d : Fin 128), kA (inp c) (ix4 0 t h d) = k (ix4 0 ⟨4096 * c.val + t.val, by omega⟩ h d))
    (ev : ∀ (c : Fin 8) (t : Fin 4096) (h : Fin 8) (d : Fin 128), vA (inp c) (ix4 0 t h d) = v (ix4 0 ⟨4096 * c.val + t.val, by omega⟩ h d)) :
    outv inp = refv x wq k v wo := by
  obtain ⟨s, hs⟩ := scl_real
  funext i
  obtain ⟨R, n, rfl⟩ : ∃ (R : Fin 256) (n : Fin 1024), i = ix3 0 R n := by
    idx_vars i
    exact ⟨i1, i2, by rw [Subsingleton.elim i0 0]⟩
  rw [outv_at, refv_at]
  refine Finset.sum_congr rfl fun p _ => ?_
  rw [eo]
  refine congrArg (fun z : EReal => z * wo (ix2 p n)) ?_
  have hp : p = hcol ⟨p.val / 128, by omega⟩ ⟨p.val % 128, by omega⟩ := Fin.ext (by show p.val = 128 * (p.val / 128) + p.val % 128; omega)
  have hp' : (⟨p.val, by omega⟩ : Fin 1152) = ⟨128 * (p.val / 128) + p.val % 128, by omega⟩ := Fin.ext (by show p.val = 128 * (p.val / 128) + p.val % 128; omega)
  rw [hp']
  conv_rhs => rw [hp]
  rw [ref_ctx x wq k hx hw hk hs]
  refine congrArg₂ Ideal.div ?_ ?_
  · rw [← sum_keys]
    exact Finset.sum_congr rfl fun c _ => ker_val inp x wq k v hx hw hk hs c (ex c) (ew c) (ek c) (ev c) R ⟨p.val / 128, by omega⟩ ⟨p.val % 128, by omega⟩
  · rw [← sum_keys]
    exact Finset.sum_congr rfl fun c _ => ker_sum inp x wq k hx hw hk hs c (ex c) (ew c) (ek c) R ⟨p.val / 128, by omega⟩

end

end Cert.Attn

end
-- ==== Proof.Equal.lean ====
/-
The value claim: the precondition makes the scores' inputs real numbers, and the two runs end with equal results.
-/
module

public import proofs.«01_k».proof.Defs
public import proofs.«01_k».proof.Proof.Launch
public import proofs.«01_k».proof.Proof.Agree
public import Idealize.ShloMosaic.Lib.Layout

@[expose] public section

noncomputable section

namespace Cert.Attn

open Idealize.ShloMosaic Idealize.ShloMosaic.TcCoe Idealize.SL.Sem
open Cert.ReferenceIdeal.Value Cert.KernelIdeal.Ring

theorem pre_kernel_facts : Cert.Pre_finite_scores_KernelIdeal.Facts := ⟨by decide, by decide, by decide⟩
theorem pre_reference_facts : Cert.Pre_finite_scores_ReferenceIdeal.Facts := ⟨by decide, by decide, by decide⟩

theorem bits_and (a b : Bool) : IntOp.andi (BitVec.ofBool a) (BitVec.ofBool b) = 1#1 → a = true ∧ b = true := by
  revert a b; decide

theorem top_word : Ideal.ofBits .f32 0x7F800000#32 = (⊤ : EReal) := by simp [Ideal.ofBits, Ideal.ieee]

/-- An element above −∞ and below +∞ is a real number. -/
theorem real_of_bits (a : EReal)
    (h : IntOp.andi (Ideal.cmp .ogt a (Ideal.ofBits .f32 0xFF800000#32)) (Ideal.cmp .olt a (Ideal.ofBits .f32 0x7F800000#32)) = 1#1) : a = ((a.toReal : ℝ) : EReal) := by
  rw [bot_word, top_word] at h
  have h' := bits_and _ _ h
  exact (EReal.coe_toReal (ne_of_lt (of_decide_eq_true h'.2)) (ne_of_gt (of_decide_eq_true h'.1))).symm

section
variable (m : (ℓ : Loc Cert.KernelIdeal.nD Cert.KernelIdeal.τ Cert.KernelIdeal.sig) → Buf (Elt Ideal) ℓ)

theorem reals [Cert.Pre_finite_scores_KernelIdeal.Facts] (hp : Cert.Pre_KernelIdeal_finite_scores_KernelIdeal m) (c : Dev Cert.KernelIdeal.nD) :
    Real' (xA (ins m c)) ∧ Real' (wqA (ins m c)) ∧ ∀ i, kA (ins m c) i = (((kA (ins m c) i : EReal).toReal : ℝ) : EReal) :=
  ⟨fun i => real_of_bits _ (congrFun (hp c).1 i), fun i => real_of_bits _ (congrFun (hp c).2.1 i), fun i => real_of_bits _ (congrFun (hp c).2.2 i)⟩
end

/-- A device's block of the keys or values. -/
theorem block_at (c : Fin 8) (v : FVec Ideal ReferenceIdeal.S1x32768x8x128 .f32) (t : Fin 4096) (h : Fin 8) (d : Fin 128) :
    Layout.block ⟨4, ![1, 4096, 8, 128]⟩ ⟨4, ![1, 32768, 8, 128]⟩ 1 8 c v (by decide) (ix4 0 t h d) = v (ix4 0 ⟨4096 * c.val + t.val, by omega⟩ h d) := by
  show v _ = v _
  congr 1
  funext a
  match a with
  | ⟨0, _⟩ => exact Fin.ext rfl
  | ⟨1, _⟩ => exact Fin.ext (by show c.val * 4096 + t.val = 4096 * c.val + t.val; omega)
  | ⟨2, _⟩ => exact Fin.ext rfl
  | ⟨3, _⟩ => exact Fin.ext rfl

theorem equal [hpf : Cert.Pre_finite_scores_KernelIdeal.Facts] :
    @Cert.algebraic_KernelIdeal_ReferenceIdeal_pre_finite_scores_KernelIdeal Cert.KernelIdeal.Gen.facts Cert.ReferenceIdeal.Gen.facts hpf := by
  intro m g m' g' hp hin
  refine ⟨res_out0 m' 0, (θ_run Cert.KernelIdeal.defs _ _).mono (fun _ h c => ⟨(h.1 c).1.trans ?_, (h.1 c).2⟩) (Cert.KernelIdeal.Ring.run_values (F := Ideal) m g),
    (θ_run Cert.ReferenceIdeal.defs _ _).mono (fun _ h => h 0) (Cert.ReferenceIdeal.Value.run (F := Ideal) m' g')⟩
  rw [res_eq]
  have ek : ∀ (c : Fin 8) (t : Fin 4096) (h : Fin 8) (d : Fin 128), kA (ins m c) (ix4 0 t h d) = _ := fun c t h d =>
    (congrFun (hin c).2.2.1 (ix4 0 t h d)).trans (block_at c _ t h d)
  have ev : ∀ (c : Fin 8) (t : Fin 4096) (h : Fin 8) (d : Fin 128), vA (ins m c) (ix4 0 t h d) = _ := fun c t h d =>
    (congrFun (hin c).2.2.2.1 (ix4 0 t h d)).trans (block_at c _ t h d)
  have hx : xA (ins m 0) = _ := (hin 0).1
  have hw : wqA (ins m 0) = _ := (hin 0).2.1
  refine agree (ins m) _ _ _ _ _ (hx ▸ (reals m hp 0).1) (hw ▸ (reals m hp 0).2.1) ?_ (fun c => (hin c).1) (fun c => (hin c).2.1) (fun c => (hin c).2.2.2.2) ek ev
  intro i
  idx_vars i
  have e := ek ⟨i1.val / 4096, by omega⟩ ⟨i1.val % 4096, by omega⟩ i2 i3
  have e1 : (⟨4096 * (i1.val / 4096) + i1.val % 4096, by omega⟩ : Fin 32768) = i1 := Fin.ext (by show 4096 * (i1.val / 4096) + i1.val % 4096 = i1.val; omega)
  have e0 : i0 = 0 := Subsingleton.elim _ _
  simp only [e1] at e
  subst e0
  rw [← e]
  exact (reals m hp _).2.2 _

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Word.Launch
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel's frame at the bit patterns: its run with the values forgotten. -/
theorem frame_word : Cert.quiescent_Kernel := fun m g _ =>
  (θ_run Cert.Kernel.defs _ _).mono (fun _ h => ⟨fun c => (h.1 c).2, h.2⟩) (Cert.Kernel.Ring.run_values (F := Bits) m g)

/-- The kernel's frame over the extended reals. -/
theorem frame_ideal : Cert.quiescent_KernelIdeal := fun m g _ =>
  (θ_run Cert.KernelIdeal.defs _ _).mono (fun _ h => ⟨fun c => (h.1 c).2, h.2⟩) (Cert.KernelIdeal.Ring.run_values (F := Ideal) m g)

/-- The reference's frame; it declares no semaphore. -/
theorem frame_ref : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Attn.pre_kernel_facts, Cert.Attn.pre_reference_facts,
    frame_word, frame_ideal, fun m g _ => frame_ideal m g trivial, frame_ref, fun m g _ => frame_ref m g trivial, trivial,
    Cert.Attn.equal (hpf := Cert.Attn.pre_kernel_facts)⟩

end Cert.Proof

end
